-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x24576x3072 : Shape := ⟨3, ![2, 24576, 3072]⟩
abbrev S2x24576x1024 : Shape := ⟨3, ![2, 24576, 1024]⟩
abbrev S24 : Shape := ⟨1, ![24]⟩
abbrev S8 : Shape := ⟨1, ![8]⟩
abbrev S24x8x128 : Shape := ⟨3, ![24, 8, 128]⟩
abbrev S1x512x128 : Shape := ⟨3, ![1, 512, 128]⟩
abbrev S1x24576x128 : Shape := ⟨3, ![1, 24576, 128]⟩
abbrev S128x24576 : Shape := ⟨2, ![128, 24576]⟩
abbrev S1x256x128 : Shape := ⟨3, ![1, 256, 128]⟩
abbrev S256x128 : Shape := ⟨2, ![256, 128]⟩
abbrev S128x256 : Shape := ⟨2, ![128, 256]⟩
abbrev S1 : Shape := ⟨1, ![1]⟩
abbrev S512x128 : Shape := ⟨2, ![512, 128]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S1x8x128 : Shape := ⟨3, ![1, 8, 128]⟩
abbrev S8x128 : Shape := ⟨2, ![8, 128]⟩
abbrev S1x128x512 : Shape := ⟨3, ![1, 128, 512]⟩
abbrev S1x1x1 : Shape := ⟨3, ![1, 1, 1]⟩
abbrev S1x1 : Shape := ⟨2, ![1, 1]⟩
abbrev S24x1x1 : Shape := ⟨3, ![24, 1, 1]⟩

abbrev nBuf : Space → Nat
  | .hbm => 11
  | .vmem => 10
  | .smem => 4
  | _ => 0

abbrev bufTy : (tb : Table) → Fin (tcTables nBuf tb) → BufTy
  | .hbm, ⟨0, _⟩ => ⟨S2x24576x3072, .fp8e4m3⟩
  | .hbm, ⟨1, _⟩ => ⟨S2x24576x1024, .fp8e4m3⟩
  | .hbm, ⟨2, _⟩ => ⟨S2x24576x1024, .fp8e4m3⟩
  | .hbm, ⟨3, _⟩ => ⟨S24, .f32⟩
  | .hbm, ⟨4, _⟩ => ⟨S8, .f32⟩
  | .hbm, ⟨5, _⟩ => ⟨S8, .f32⟩
  | .hbm, ⟨6, _⟩ => ⟨S24, .f32⟩
  | .hbm, ⟨7, _⟩ => ⟨S2x24576x3072, .fp8e4m3⟩
  | .hbm, ⟨8, _⟩ => ⟨S24x8x128, .f32⟩
  | .hbm, ⟨9, _⟩ => ⟨S24x1x1, .f32⟩
  | .hbm, ⟨10, _⟩ => ⟨S24, .f32⟩
  | .local _ .vmem, ⟨0, _⟩ => ⟨S1x512x128, .fp8e4m3⟩
  | .local _ .vmem, ⟨1, _⟩ => ⟨S1x512x128, .fp8e4m3⟩
  | .local _ .vmem, ⟨2, _⟩ => ⟨S1x24576x128, .fp8e4m3⟩
  | .local _ .vmem, ⟨3, _⟩ => ⟨S1x24576x128, .fp8e4m3⟩
  | .local _ .vmem, ⟨4, _⟩ => ⟨S1x24576x128, .fp8e4m3⟩
  | .local _ .vmem, ⟨5, _⟩ => ⟨S1x24576x128, .fp8e4m3⟩
  | .local _ .vmem, ⟨6, _⟩ => ⟨S1x512x128, .fp8e4m3⟩
  | .local _ .vmem, ⟨7, _⟩ => ⟨S1x512x128, .fp8e4m3⟩
  | .local _ .vmem, ⟨8, _⟩ => ⟨S24x8x128, .f32⟩
  | .local _ .vmem, ⟨9, _⟩ => ⟨S128x24576, .bf16⟩
  | .local _ .smem, ⟨0, _⟩ => ⟨S24, .f32⟩
  | .local _ .smem, ⟨1, _⟩ => ⟨S8, .f32⟩
  | .local _ .smem, ⟨2, _⟩ => ⟨S8, .f32⟩
  | .local _ .smem, ⟨3, _⟩ => ⟨S24, .f32⟩
  | _, _ => ⟨S2x24576x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨4, ![2, 8, 3, 48], ![false, false, false, false]⟩

def k0_cond2 (i : grid0.Coords) : BitVec 1 :=
  let arg2 : BitVec 32 := BitVec.ofNat 32 (i 2).val
  let c0_i32_4 : BitVec 32 := 0#32
  let v11 : BitVec 1 := Scalar.cmpi .eq arg2 c0_i32_4
  let arg3 : BitVec 32 := BitVec.ofNat 32 (i 3).val
  let c0_i32_5 : BitVec 32 := 0#32
  let v12 : BitVec 1 := Scalar.cmpi .eq arg3 c0_i32_5
  let v13 : BitVec 1 := Scalar.andi v11 v12
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_38 : BitVec 32 := 0#32
  let c96_i32 : BitVec 32 := 96#32
  let v110 : BitVec 32 := Scalar.addi c0_i32_38 c96_i32
  let c1_i32_39 : BitVec 32 := 1#32
  ⟨c0_i32_38, v110, c1_i32_39⟩
def k0_mult1 (k0_t1 : Fin k0_t1_loop.trips) : BitVec 32 :=
  let c0_i32_42 : BitVec 32 := 0#32
  let c0_i32_38 : BitVec 32 := 0#32
  let c1_i32_39 : BitVec 32 := 1#32
  let arg14 : BitVec 32 := Scf.iv c0_i32_38 c1_i32_39 k0_t1
  let c1_i32_41 : BitVec 32 := 1#32
  let v111 : BitVec 32 := Scalar.muli arg14 c1_i32_41
  let v112 : BitVec 32 := Scalar.addi c0_i32_42 v111
  let c256_i32 : BitVec 32 := 256#32
  let v113 : BitVec 32 := Scalar.muli v112 c256_i32
  v113
def k0_off1 (k0_t1 : Fin k0_t1_loop.trips) : Fin 3 → Nat :=
  let c0_43 : Index := 0#32
  let c0_i32_42 : BitVec 32 := 0#32
  let c0_i32_38 : BitVec 32 := 0#32
  let c1_i32_39 : BitVec 32 := 1#32
  let arg14 : BitVec 32 := Scf.iv c0_i32_38 c1_i32_39 k0_t1
  let c1_i32_41 : BitVec 32 := 1#32
  let v111 : BitVec 32 := Scalar.muli arg14 c1_i32_41
  let v112 : BitVec 32 := Scalar.addi c0_i32_42 v111
  let c256_i32 : BitVec 32 := 256#32
  let v113 : BitVec 32 := Scalar.muli v112 c256_i32
  let v114 : BitVec 32 := v113
  let v115 : Index := Scalar.indexCast v114
  let c0_44 : Index := 0#32
  ![0, v115.toNat, 0]
def k0_off2 (k0_t1 : Fin k0_t1_loop.trips) : Fin 2 → Nat :=
  let c0_45 : Index := 0#32
  let c0_i32_42 : BitVec 32 := 0#32
  let c0_i32_38 : BitVec 32 := 0#32
  let c1_i32_39 : BitVec 32 := 1#32
  let arg14 : BitVec 32 := Scf.iv c0_i32_38 c1_i32_39 k0_t1
  let c1_i32_41 : BitVec 32 := 1#32
  let v111 : BitVec 32 := Scalar.muli arg14 c1_i32_41
  let v112 : BitVec 32 := Scalar.addi c0_i32_42 v111
  let c256_i32 : BitVec 32 := 256#32
  let v113 : BitVec 32 := Scalar.muli v112 c256_i32
  let v114 : BitVec 32 := v113
  let v120 : Index := Scalar.indexCast v114
  ![0, v120.toNat]
def k0_off3 (i : grid0.Coords) : Fin 1 → Nat :=
  let arg1 : BitVec 32 := BitVec.ofNat 32 (i 1).val
  let c3_i32 : BitVec 32 := 3#32
  let v0 : BitVec 32 := Scalar.muli arg1 c3_i32
  let arg2 : BitVec 32 := BitVec.ofNat 32 (i 2).val
  let v1 : BitVec 32 := Scalar.addi v0 arg2
  let v16 : Index := Scalar.indexCast v1
  ![v16.toNat]
def k0_off4 (i : grid0.Coords) : Fin 1 → Nat :=
  let arg1 : BitVec 32 := BitVec.ofNat 32 (i 1).val
  let v18 : Index := Scalar.indexCast arg1
  ![v18.toNat]
@[reducible] def k0_t2_loop (i : grid0.Coords) : Scf.Loop 32 :=
  let c0_i32_13 : BitVec 32 := 0#32
  let arg3 : BitVec 32 := BitVec.ofNat 32 (i 3).val
  let v28 : BitVec 32 := Scalar.subi arg3 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_14 : BitVec 32 := 1#32
  ⟨c0_i32_13, v32, c1_i32_14⟩
def k0_mult2 (i : grid0.Coords) (k0_t2 : Fin (k0_t2_loop i).trips) : BitVec 32 :=
  let c0_i32_13 : BitVec 32 := 0#32
  let c1_i32_14 : BitVec 32 := 1#32
  let arg14 : BitVec 32 := Scf.iv c0_i32_13 c1_i32_14 k0_t2
  let c512_i32_38 : BitVec 32 := 512#32
  let v110 : BitVec 32 := Scalar.muli arg14 c512_i32_38
  v110
def k0_off5 (i : grid0.Coords) (k0_t2 : Fin (k0_t2_loop i).trips) : Fin 3 → Nat :=
  let c0_39 : Index := 0#32
  let c0_i32_13 : BitVec 32 := 0#32
  let c1_i32_14 : BitVec 32 := 1#32
  let arg14 : BitVec 32 := Scf.iv c0_i32_13 c1_i32_14 k0_t2
  let c512_i32_38 : BitVec 32 := 512#32
  let v110 : BitVec 32 := Scalar.muli arg14 c512_i32_38
  let v111 : BitVec 32 := v110
  let v112 : Index := Scalar.indexCast v111
  let c0_40 : Index := 0#32
  ![0, v112.toNat, 0]
def k0_off6 (i : grid0.Coords) (k0_t2 : Fin (k0_t2_loop i).trips) : Fin 2 → Nat :=
  let c0_44 : Index := 0#32
  let c0_i32_13 : BitVec 32 := 0#32
  let c1_i32_14 : BitVec 32 := 1#32
  let arg14 : BitVec 32 := Scf.iv c0_i32_13 c1_i32_14 k0_t2
  let c512_i32_38 : BitVec 32 := 512#32
  let v110 : BitVec 32 := Scalar.muli arg14 c512_i32_38
  let v111 : BitVec 32 := v110
  let v132 : Index := Scalar.indexCast v111
  ![0, v132.toNat]
@[reducible] def k0_t3_loop (i : grid0.Coords) : Scf.Loop 32 :=
  let c0_i32_13 : BitVec 32 := 0#32
  let arg3 : BitVec 32 := BitVec.ofNat 32 (i 3).val
  let v28 : BitVec 32 := Scalar.subi arg3 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let v29 : BitVec 32 := Scalar.addi c0_i32_13 v28
  let c1_i32_15 : BitVec 32 := 1#32
  ⟨v32, v29, c1_i32_15⟩
def k0_mult3 (i : grid0.Coords) (k0_t3 : Fin (k0_t3_loop i).trips) : BitVec 32 :=
  let c0_i32_13 : BitVec 32 := 0#32
  let arg3 : BitVec 32 := BitVec.ofNat 32 (i 3).val
  let v28 : BitVec 32 := Scalar.subi arg3 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg14 : BitVec 32 := Scf.iv v32 c1_i32_15 k0_t3
  let c512_i32_38 : BitVec 32 := 512#32
  let v110 : BitVec 32 := Scalar.muli arg14 c512_i32_38
  v110
def k0_off7 (i : grid0.Coords) (k0_t3 : Fin (k0_t3_loop i).trips) : Fin 3 → Nat :=
  let c0_39 : Index := 0#32
  let c0_i32_13 : BitVec 32 := 0#32
  let arg3 : BitVec 32 := BitVec.ofNat 32 (i 3).val
  let v28 : BitVec 32 := Scalar.subi arg3 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg14 : BitVec 32 := Scf.iv v32 c1_i32_15 k0_t3
  let c512_i32_38 : BitVec 32 := 512#32
  let v110 : BitVec 32 := Scalar.muli arg14 c512_i32_38
  let v111 : BitVec 32 := v110
  let v112 : Index := Scalar.indexCast v111
  let c0_40 : Index := 0#32
  ![0, v112.toNat, 0]
def k0_off8 (i : grid0.Coords) (k0_t3 : Fin (k0_t3_loop i).trips) : Fin 2 → Nat :=
  let c0_44 : Index := 0#32
  let c0_i32_13 : BitVec 32 := 0#32
  let arg3 : BitVec 32 := BitVec.ofNat 32 (i 3).val
  let v28 : BitVec 32 := Scalar.subi arg3 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg14 : BitVec 32 := Scf.iv v32 c1_i32_15 k0_t3
  let c512_i32_38 : BitVec 32 := 512#32
  let v110 : BitVec 32 := Scalar.muli arg14 c512_i32_38
  let v111 : BitVec 32 := v110
  let v132 : Index := Scalar.indexCast v111
  ![0, v132.toNat]
def k0_mult4 (i : grid0.Coords) : BitVec 32 :=
  let arg3 : BitVec 32 := BitVec.ofNat 32 (i 3).val
  let c512_i32 : BitVec 32 := 512#32
  let v35 : BitVec 32 := Scalar.muli arg3 c512_i32
  v35
def k0_off9 (i : grid0.Coords) : Fin 3 → Nat :=
  let c0_16 : Index := 0#32
  let arg3 : BitVec 32 := BitVec.ofNat 32 (i 3).val
  let c512_i32 : BitVec 32 := 512#32
  let v35 : BitVec 32 := Scalar.muli arg3 c512_i32
  let v36 : BitVec 32 := v35
  let v37 : Index := Scalar.indexCast v36
  let c0_17 : Index := 0#32
  ![0, v37.toNat, 0]
def k0_off10 (i : grid0.Coords) : Fin 2 → Nat :=
  let c0_24 : Index := 0#32
  let arg3 : BitVec 32 := BitVec.ofNat 32 (i 3).val
  let c512_i32 : BitVec 32 := 512#32
  let v35 : BitVec 32 := Scalar.muli arg3 c512_i32
  let v36 : BitVec 32 := v35
  let v68 : Index := Scalar.indexCast v36
  ![0, v68.toNat]
def k0_off11 (i : grid0.Coords) : Fin 3 → Nat :=
  let arg1 : BitVec 32 := BitVec.ofNat 32 (i 1).val
  let c3_i32 : BitVec 32 := 3#32
  let v0 : BitVec 32 := Scalar.muli arg1 c3_i32
  let arg2 : BitVec 32 := BitVec.ofNat 32 (i 2).val
  let v1 : BitVec 32 := Scalar.addi v0 arg2
  let v81 : Index := Scalar.indexCast v1
  let c0_27 : Index := 0#32
  let c0_28 : Index := 0#32
  ![v81.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  ![arg0.toNat, arg3.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  ![arg0.toNat, arg3.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .smem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S1x512x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x24576x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x24576x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 1 → Memref sig .tc .vmem S24x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x24576x3072 : Shape := ⟨3, ![2, 24576, 3072]⟩
abbrev S2x24576x1024 : Shape := ⟨3, ![2, 24576, 1024]⟩
abbrev S24 : Shape := ⟨1, ![24]⟩
abbrev S8 : Shape := ⟨1, ![8]⟩
abbrev S2x24576x24x128 : Shape := ⟨4, ![2, 24576, 24, 128]⟩
abbrev S2x24576x8x128 : Shape := ⟨4, ![2, 24576, 8, 128]⟩
abbrev S2x24576x8x1x128 : Shape := ⟨5, ![2, 24576, 8, 1, 128]⟩
abbrev S2x24576x8x3x128 : Shape := ⟨5, ![2, 24576, 8, 3, 128]⟩
abbrev S2x24x24576x128 : Shape := ⟨4, ![2, 24, 24576, 128]⟩
abbrev S48x24576x128 : Shape := ⟨3, ![48, 24576, 128]⟩
abbrev S8x1 : Shape := ⟨2, ![8, 1]⟩
abbrev S8x3 : Shape := ⟨2, ![8, 3]⟩
abbrev S48x24576x24576 : Shape := ⟨3, ![48, 24576, 24576]⟩
abbrev S2x24x24576x24576 : Shape := ⟨4, ![2, 24, 24576, 24576]⟩
abbrev S1x24x1x1 : Shape := ⟨4, ![1, 24, 1, 1]⟩
abbrev S24576x24576 : Shape := ⟨2, ![24576, 24576]⟩
abbrev S1x1x24576x24576 : Shape := ⟨4, ![1, 1, 24576, 24576]⟩
abbrev S2x24x24576 : Shape := ⟨3, ![2, 24, 24576]⟩
abbrev S2x24x24576x1 : Shape := ⟨4, ![2, 24, 24576, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x24576x3072, .fp8e4m3⟩
  | .hbm, ⟨1, _⟩ => ⟨S2x24576x1024, .fp8e4m3⟩
  | .hbm, ⟨2, _⟩ => ⟨S2x24576x1024, .fp8e4m3⟩
  | .hbm, ⟨3, _⟩ => ⟨S24, .f32⟩
  | .hbm, ⟨4, _⟩ => ⟨S8, .f32⟩
  | .hbm, ⟨5, _⟩ => ⟨S8, .f32⟩
  | .hbm, ⟨6, _⟩ => ⟨S24, .f32⟩
  | .hbm, ⟨7, _⟩ => ⟨S2x24576x3072, .fp8e4m3⟩
  | .hbm, ⟨8, _⟩ => ⟨S24, .f32⟩
  | .local _ .vmem, ⟨0, _⟩ => ⟨S24, .f32⟩
  | .local _ .vmem, ⟨1, _⟩ => ⟨S8, .f32⟩
  | .local _ .vmem, ⟨2, _⟩ => ⟨S8, .f32⟩
  | .local _ .vmem, ⟨3, _⟩ => ⟨S24, .f32⟩
  | .local _ .vmem, ⟨4, _⟩ => ⟨S2x24576x3072, .fp8e4m3⟩
  | .local _ .vmem, ⟨5, _⟩ => ⟨S2x24576x1024, .fp8e4m3⟩
  | .local _ .vmem, ⟨6, _⟩ => ⟨S2x24576x1024, .fp8e4m3⟩
  | .local _ .vmem, ⟨7, _⟩ => ⟨S2x24576x3072, .fp8e4m3⟩
  | .local _ .vmem, ⟨8, _⟩ => ⟨S24, .f32⟩
  | _, _ => ⟨S2x24576x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24576x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x24576x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x24576x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x24576x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRuns.lean ====
/-
  The body's two branch conditions as arithmetic of the grid point, and the names of the staging buffers
  the body is called with.  The grid has 2304 points; the point's number is
  `t = ((b * 8 + kv) * 3 + g) * 48 + qi`.
-/
module

public import proofs.«01_k».proof.Proof.Gen.KernelIdeal.Frame
public import proofs.«01_k».proof.Proof.Gen.KernelIdeal.Skeleton
public import proofs.«01_k».proof.Proof.Gen.KernelIdeal.Loops

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) (Scalar.cmpi .eq (BitVec.ofNat 32 (i 3).val) 0#32))) 0#32) = 1#1
/-- It holds at the first point only — by arithmetic of the point. -/
theorem hcond0_0 : ∀ t : Fin cfg0.N, cond0_0 (grid0.coords t) ↔ t.val % 2304 = 0 :=
  (fun t => by
    have ht : t.val < 2304 := Nat.lt_of_lt_of_eq t.isLt N_0
    have e0 : (grid0.coords t 0).val = t.val / 1152 % 2 := Pipeline.Grid.coords_val t 0 (by decide) rfl
    have e1 : (grid0.coords t 1).val = t.val / 144 % 8 := Pipeline.Grid.coords_val t 1 (by decide) rfl
    have e2 : (grid0.coords t 2).val = t.val / 48 % 3 := Pipeline.Grid.coords_val t 2 (by decide) rfl
    have e3 : (grid0.coords t 3).val = t.val / 1 % 48 := Pipeline.Grid.coords_val t 3 (by decide) rfl
    simp only [cond0_0, e0, e1, e2, e3]
    word_cmp
   : ∀ t : Fin grid0.N, cond0_0 (grid0.coords t) ↔ t.val % 2304 = 0)

/-- The condition of the body's `scf.if` 1 (`k0_h2`), from the grid coordinates (the skeleton's scalar
    chain substituted). -/
abbrev cond0_1 (i : grid0.Coords) : Prop := k0_cond2 i = 1#1
/-- It holds at the points ≡ 0 (mod 144) — by arithmetic of the point. -/
theorem hcond0_1 : ∀ t : Fin cfg0.N, cond0_1 (grid0.coords t) ↔ t.val % 144 = 0 :=
  (fun t => by
    have ht : t.val < 2304 := Nat.lt_of_lt_of_eq t.isLt N_0
    have e0 : (grid0.coords t 0).val = t.val / 1152 % 2 := Pipeline.Grid.coords_val t 0 (by decide) rfl
    have e1 : (grid0.coords t 1).val = t.val / 144 % 8 := Pipeline.Grid.coords_val t 1 (by decide) rfl
    have e2 : (grid0.coords t 2).val = t.val / 48 % 3 := Pipeline.Grid.coords_val t 2 (by decide) rfl
    have e3 : (grid0.coords t 3).val = t.val / 1 % 48 := Pipeline.Grid.coords_val t 3 (by decide) rfl
    simp only [cond0_1, k0_cond2, e0, e1, e2, e3]
    word_cmp
   : ∀ t : Fin grid0.N, cond0_1 (grid0.coords t) ↔ t.val % 144 = 0)

/-! ## The kernel body on any staging memrefs: a subtype the run finds -/

/-- Each window's current staging memref at point `t`, spelled as the pipeline passes it (`bodyAt0`), and its wholeness. -/
abbrev ms0_0 (t : Fin cfg0.N) : Memref sig .tc .smem S24 .f32 := win0_0.stage (cfg0.slots t 0)
/-- It is a whole buffer. -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .smem S8 .f32 := win0_1.stage (cfg0.slots t 1)
/-- It is a whole buffer. -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .smem S8 .f32 := win0_2.stage (cfg0.slots t 2)
/-- It is a whole buffer. -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .smem S24 .f32 := win0_3.stage (cfg0.slots t 3)
/-- It is a whole buffer. -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x512x128 .fp8e4m3 := win0_4.stage (cfg0.slots t 4)
/-- It is a whole buffer. -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S1x24576x128 .fp8e4m3 := win0_5.stage (cfg0.slots t 5)
/-- It is a whole buffer. -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S1x24576x128 .fp8e4m3 := win0_6.stage (cfg0.slots t 6)
/-- It is a whole buffer. -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1x512x128 .fp8e4m3 := win0_7.stage (cfg0.slots t 7)
/-- It is a whole buffer. -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S24x8x128 .f32 := win0_8.stage (cfg0.slots t 8)
/-- It is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x24576 .bf16 := Memref.whole cc0_scratch0
/-- The scratch `arg13` the kernel carries between points, as a view: what it holds is stated through it. -/
abbrev VS0_0 : View sig .tc .vmem S128x24576 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.KVals.lean ====
/-
  What one grid point of the kernel computes, as plain functions of the blocks it reads: the running state
  of the online softmax after `j` key blocks, the finished output block, and the two results stored from it.
-/
module

public import proofs.«01_k».proof.Proof.KRuns
public import Idealize.ShloMosaic.Lib.Affine
public import Idealize.ShloMosaic.Lib.ValueIdxCore
public import Idealize.ShloMosaic.Lib.WholeRead
public import Idealize.ShloMosaic.Lib.WritesUnit
public import Idealize.ShloMosaic.Lib.Pipeline.ValueKit.Tiles

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Key block `j`: rows `512 j … 512 j + 511` of the staged key array. -/
def kBlk (x5 : Vec F S1x24576x128 .fp8e4m3) (j : ℕ) : Vec F S1x512x128 .fp8e4m3 :=
  fun y => x5 (ix3 (n0 := 1) (n1 := 24576) (n2 := 128) 0 ⟨(512 * j + (y 1).val) % 24576, Nat.mod_lt _ (by decide)⟩ (y 2))

/-- The columns `512 j … 512 j + 511` of the transposed value array. -/
def vBlk (xs : Vec F S128x24576 .bf16) (j : ℕ) : Vec F S128x512 .bf16 :=
  fun y => xs (ix2 (n0 := 128) (n1 := 24576) (y 0) ⟨(512 * j + (y 1).val) % 24576, Nat.mod_lt _ (by decide)⟩)

/-- Rows `256 k … 256 k + 255` of the staged value array. -/
def wBlk (x6 : Vec F S1x24576x128 .fp8e4m3) (k : ℕ) : Vec F S1x256x128 .fp8e4m3 :=
  fun y => x6 (ix3 (n0 := 1) (n1 := 24576) (n2 := 128) 0 ⟨(256 * k + (y 1).val) % 24576, Nat.mod_lt _ (by decide)⟩ (y 2))

/-- The whole transposed value array the kernel builds, 256 rows at a time. -/
def vtOf (x6 : Vec F S1x24576x128 .fp8e4m3) : Vec F S128x24576 .bf16 :=
  fun y => k0_pay4 (wBlk x6 ((y 1).val / 256)) (ix2 (n0 := 128) (n1 := 256) (y 0) ⟨(y 1).val % 256, Nat.mod_lt _ (by decide)⟩)

/-- The scalar of a 24-entry table the point reads: the query head's. -/
def at24 (x : Vec F S24 .f32) (i : grid0.Coords) : Elt F .f32 :=
  x (ix1 (n := 24) ⟨(3 * (i 1).val + (i 2).val) % 24, Nat.mod_lt _ (by decide)⟩)

/-- The scalar of an 8-entry table the point reads: the key head's. -/
def at8 (x : Vec F S8 .f32) (i : grid0.Coords) : Elt F .f32 :=
  x (ix1 (n := 8) ⟨(i 1).val % 8, Nat.mod_lt _ (by decide)⟩)

/-- The running maximum, the running sum and the running output after the first `j` key blocks. -/
def stT (v17 v19 : Elt F .f32) (v23 : Vec F S1x512x128 .fp8e4m3) (x5 : Vec F S1x24576x128 .fp8e4m3)
    (xs : Vec F S128x24576 .bf16) : ℕ → FVec F S1x512 .f32 × FVec F S1x512 .f32 × FVec F S128x512 .f32
  | 0 => (k0_pay7, k0_pay8, k0_pay9)
  | j + 1 =>
    (k0_pay11 v17 v19 v23 (stT v17 v19 v23 x5 xs j).1 (kBlk x5 j),
     k0_pay14 v17 v19 v23 (stT v17 v19 v23 x5 xs j).1 (stT v17 v19 v23 x5 xs j).2.1 (kBlk x5 j),
     k0_pay15 v17 v19 v23 (stT v17 v19 v23 x5 xs j).1 (stT v17 v19 v23 x5 xs j).2.2 (kBlk x5 j) (vBlk xs j))

/-- The finished output block of a point, one column per query row. -/
def oBlk (i : grid0.Coords) (v17 v19 v78 : Elt F .f32) (v23 : Vec F S1x512x128 .fp8e4m3)
    (x5 : Vec F S1x24576x128 .fp8e4m3) (xs : Vec F S128x24576 .bf16) : FVec F S128x512 .f32 :=
  k0_pay22 (BitVec.ofNat 32 (i 3).val) (k0_pay5 v17 v19) (k0_pay6 v23) (stT v17 v19 v23 x5 xs (i 3).val).1
    (stT v17 v19 v23 x5 xs (i 3).val).2.1 (stT v17 v19 v23 x5 xs (i 3).val).2.2 (kBlk x5 (i 3).val) (vBlk xs (i 3).val) v78

/-- The output block from the tables and blocks a point reads. -/
def oPt (i : grid0.Coords) (x0 : Vec F S24 .f32) (x1 x2 : Vec F S8 .f32) (x4 : Vec F S1x512x128 .fp8e4m3)
    (x5 : Vec F S1x24576x128 .fp8e4m3) (xs : Vec F S128x24576 .bf16) : FVec F S128x512 .f32 :=
  oBlk i (at24 x0 i) (at8 x1 i) (at8 x2 i) x4 x5 xs

/-- The row of the amax array the point updates. -/
def amaxRow (x8 : Vec F S24x8x128 .f32) (i : grid0.Coords) : Vec F S1x8x128 .f32 :=
  fun y => x8 (ix3 (n0 := 24) (n1 := 8) (n2 := 128) ⟨(3 * (i 1).val + (i 2).val) % 24, Nat.mod_lt _ (by decide)⟩ (y 1) (y 2))

/-- The amax array after a point whose output block is `o`: the head's row raised to the block's greatest
    magnitude, the other rows as they were. -/
def amaxPut (x8 : Vec F S24x8x128 .f32) (i : grid0.Coords) (o : FVec F S128x512 .f32) : Vec F S24x8x128 .f32 :=
  fun y => if (y 0).val = 3 * (i 1).val + (i 2).val
    then k0_pay1 o (amaxRow x8 i) (ix3 (n0 := 1) (n1 := 8) (n2 := 128) 0 (y 1) (y 2)) else x8 y

/-! ## The reads the run makes, as those functions -/

/-- A read of a 512-row block at row `512 j` is key block `j`. -/
theorem ld_kBlk (x5 : Vec F S1x24576x128 .fp8e4m3) (off : Fin 3 → ℕ) (inb) (j : ℕ) (hj : j < 48) (h : off = ![0, 512 * j, 0]) :
    View.ld x5 (Rect.unit (s := S1x24576x128) off S1x512x128.size inb) = kBlk x5 j := by
  subst h
  funext y
  refine View.ld_unit_apply_of _ _ _ _ _ _ fun a => ?_
  have h1 : (y 1).val < 512 := (y 1).isLt
  have h0 : (y 0).val < 1 := (y 0).isLt
  match a with
  | ⟨0, _⟩ => show 0 = 0 + (y 0).val; omega
  | ⟨1, _⟩ => show (512 * j + (y 1).val) % 24576 = 512 * j + (y 1).val; omega
  | ⟨2, _⟩ => show (y 2).val = 0 + (y 2).val; omega

/-- A read of a 256-row block at row `256 k` of the value array. -/
theorem ld_wBlk (x6 : Vec F S1x24576x128 .fp8e4m3) (off : Fin 3 → ℕ) (inb) (k : ℕ) (hk : k < 96) (h : off = ![0, 256 * k, 0]) :
    View.ld x6 (Rect.unit (s := S1x24576x128) off S1x256x128.size inb) = wBlk x6 k := by
  subst h
  funext y
  refine View.ld_unit_apply_of _ _ _ _ _ _ fun a => ?_
  have h1 : (y 1).val < 256 := (y 1).isLt
  have h0 : (y 0).val < 1 := (y 0).isLt
  match a with
  | ⟨0, _⟩ => show 0 = 0 + (y 0).val; omega
  | ⟨1, _⟩ => show (256 * k + (y 1).val) % 24576 = 256 * k + (y 1).val; omega
  | ⟨2, _⟩ => show (y 2).val = 0 + (y 2).val; omega

/-- A read of 512 columns at column `512 j` of the transposed values. -/
theorem ld_vBlk (xs : Vec F S128x24576 .bf16) (off : Fin 2 → ℕ) (inb) (j : ℕ) (hj : j < 48) (h : off = ![0, 512 * j]) :
    View.ld xs (Rect.unit (s := S128x24576) off S128x512.size inb) = vBlk xs j := by
  subst h
  funext y
  refine View.ld_unit_apply_of _ _ _ _ _ _ fun a => ?_
  have h1 : (y 1).val < 512 := (y 1).isLt
  match a with
  | ⟨0, _⟩ => show (y 0).val = 0 + (y 0).val; omega
  | ⟨1, _⟩ => show (512 * j + (y 1).val) % 24576 = 512 * j + (y 1).val; omega

/-- A read of the head's row of the amax array. -/
theorem ld_amaxRow (x8 : Vec F S24x8x128 .f32) (i : grid0.Coords) (inb) :
    View.ld x8 (Rect.unit (s := S24x8x128) (k0_off11 i) S1x8x128.size inb) = amaxRow x8 i := by
  funext y
  refine View.ld_unit_apply_of _ _ _ _ _ _ fun a => ?_
  have h0 : (y 0).val < 1 := (y 0).isLt
  have r1 : (i 1).val < 8 := (i 1).isLt
  have r2 : (i 2).val < 3 := (i 2).isLt
  refine Eq.trans ?_ (congrArg (· + (y a).val) (congrFun (k0_off11_eq i) a).symm)
  match a with
  | ⟨0, _⟩ => show (3 * (i 1).val + (i 2).val) % 24 = 3 * (i 1).val + (i 2).val + (y 0).val; omega
  | ⟨1, _⟩ => show (y 1).val = 0 + (y 1).val; omega
  | ⟨2, _⟩ => show (y 2).val = 0 + (y 2).val; omega

/-- The scalar read at the query head. -/
theorem ld_at24 (x : Vec F S24 .f32) (i : grid0.Coords) (inb) (y) :
    View.ld x (Rect.unit (s := S24) (k0_off3 i) S1.size inb) y = at24 x i := by
  refine View.ld_unit_apply_of _ _ _ _ _ _ fun a => ?_
  have h0 : (y 0).val < 1 := (y 0).isLt
  have r1 : (i 1).val < 8 := (i 1).isLt
  have r2 : (i 2).val < 3 := (i 2).isLt
  refine Eq.trans ?_ (congrArg (· + (y a).val) (congrFun (k0_off3_eq i) a).symm)
  match a with
  | ⟨0, _⟩ => show (3 * (i 1).val + (i 2).val) % 24 = 3 * (i 1).val + (i 2).val + (y 0).val; omega

/-- The scalar read at the key head. -/
theorem ld_at8 (x : Vec F S8 .f32) (i : grid0.Coords) (inb) (y) :
    View.ld x (Rect.unit (s := S8) (k0_off4 i) S1.size inb) y = at8 x i := by
  refine View.ld_unit_apply_of _ _ _ _ _ _ fun a => ?_
  have h0 : (y 0).val < 1 := (y 0).isLt
  have r1 : (i 1).val < 8 := (i 1).isLt
  refine Eq.trans ?_ (congrArg (· + (y a).val) (congrFun (k0_off4_eq i) a).symm)
  match a with
  | ⟨0, _⟩ => show (i 1).val % 8 = (i 1).val + (y 0).val; omega

/-! ## Trip counts -/

/-- The unmasked loop visits the key blocks before the query's own. -/
theorem trips2 (i : grid0.Coords) : (k0_t2_loop i).trips = (i 3).val := by
  have h_c0_i32_13 : Affine.IsInt 0#32 (0) := Affine.ofNat _ (by omega)
  have r_i3 : (i 3).val < 48 := (i 3).isLt
  have h_arg3 : Affine.IsInt (BitVec.ofNat 32 (i 3).val) (((i 3).val : Int)) := Affine.ofNat _ (by omega)
  have h_v28 : Affine.IsInt _ (((i 3).val : Int)) := Affine.subi h_arg3 h_c0_i32_13 (by omega)
  have h_c1_i32 : Affine.IsInt 1#32 (1) := Affine.ofNat _ (by omega)
  have h_v30 : Affine.IsInt _ (((i 3).val : Int)) := Affine.divsi h_v28 h_c1_i32 (by omega)
  have h_v31 : Affine.IsInt _ (((i 3).val : Int)) := Affine.muli h_v30 h_c1_i32 (by omega)
  have h_v32 : Affine.IsInt _ (((i 3).val : Int)) := Affine.addi h_c0_i32_13 h_v31 (by omega)
  have h_c1_i32_14 : Affine.IsInt 1#32 (1) := Affine.ofNat _ (by omega)
  exact Affine.trips_eq h_c0_i32_13 h_v32 h_c1_i32_14 _ (by omega)

/-- The remainder loop makes no trip. -/
theorem trips3 (i : grid0.Coords) : (k0_t3_loop i).trips = 0 := Nat.le_zero.1 (k0_t3_abs i).2.1

/-- The transposition loop makes 96 trips. -/
theorem trips1 : k0_t1_loop.trips = 96 := by decide +kernel

/-! ## The loops' values -/

set_option maxHeartbeats 1600000 in
/-- The run's loop state before trip `j` is `stT` at `j`. -/
theorem st2_eq (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole) (v17 v19 : Elt F .f32) (v23 : Vec F S1x512x128 .fp8e4m3)
    (X9 : BufTy.Contents (Elt F) arg9.view.ty) (X13 : BufTy.Contents (Elt F) arg13.view.ty) :
    ∀ j : ℕ, j ≤ (i 3).val →
      st_k0_t2 (F := F) Variants.none c none i arg4 harg4 arg5 harg5 arg6 harg6 arg7 harg7 arg8 harg8 arg9 harg9 arg10 harg10 arg11 harg11 arg12 harg12 arg13 harg13 v17 v19 v23 X9 X13 (k0_pay7, k0_pay8, k0_pay9) j
        = stT v17 v19 v23 (arg9.view.read (Elt F) X9) (arg13.view.read (Elt F) X13) j := by
  intro j
  induction j with
  | zero => intro _; rfl
  | succ j ih =>
    intro hj
    have hk : j < (k0_t2_loop i).trips := by rw [trips2]; omega
    have r3 : (i 3).val < 48 := (i 3).isLt
    have e := st_k0_t2_succ (F := F) Variants.none c none i arg4 harg4 arg5 harg5 arg6 harg6 arg7 harg7 arg8 harg8 arg9 harg9 arg10 harg10 arg11 harg11 arg12 harg12 arg13 harg13 v17 v19 v23 X9 X13 (k0_pay7, k0_pay8, k0_pay9) ⟨j, hk⟩
    refine e.trans ?_
    show tripR_k0_t2 (F := F) Variants.none c none i arg4 harg4 arg5 harg5 arg6 harg6 arg7 harg7 arg8 harg8 arg9 harg9 arg10 harg10 arg11 harg11 arg12 harg12 arg13 harg13 v17 v19 v23 X9 X13 ⟨j, hk⟩ (st_k0_t2 (F := F) Variants.none c none i arg4 harg4 arg5 harg5 arg6 harg6 arg7 harg7 arg8 harg8 arg9 harg9 arg10 harg10 arg11 harg11 arg12 harg12 arg13 harg13 v17 v19 v23 X9 X13 (k0_pay7, k0_pay8, k0_pay9) j) = _
    rw [ih (by omega)]
    have a9 : ∀ inb, View.readAt (Elt F) arg9.view (Rect.unit (s := S1x24576x128) (k0_off5 i ⟨j, hk⟩) S1x512x128.size inb).toLoadRect X9 = kBlk (arg9.view.read (Elt F) X9) j :=
      fun inb => ld_kBlk _ _ inb j (by omega) (k0_off5_eq i ⟨j, hk⟩)
    have a13 : ∀ inb, View.readAt (Elt F) arg13.view (Rect.unit (s := S128x24576) (k0_off6 i ⟨j, hk⟩) S128x512.size inb).toLoadRect X13 = vBlk (arg13.view.read (Elt F) X13) j :=
      fun inb => ld_vBlk _ _ inb j (by omega) (k0_off6_eq i ⟨j, hk⟩)
    unfold tripR_k0_t2 trip_k0_t2
    dsimp only
    simp only [a9, a13]
    rfl

end Cert.KernelIdeal.Body
-- ==== Proof.KTrans.lean ====
/-
  The transposition loop: 96 stores of 128 × 256 tiles, side by side, cover the scratch array, and what is left is the
  staged values transposed.
-/
module

public import proofs.«01_k».proof.Proof.KVals

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

set_option maxHeartbeats 1600000 in
/-- One trip stores one tile: 256 rows of the values, transposed, at columns `256 k …`. -/
theorem tripL1 (c : Dev nD) (i : grid0.Coords) (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole) (h2 : k0_cond2 i = 1#1)
    (X10 : BufTy.Contents (Elt F) arg10.view.ty) (k : Fin k0_t1_loop.trips) :
    ∃ inb, tripL_k0_t1 (F := F) Variants.none c none i arg4 harg4 arg5 harg5 arg6 harg6 arg7 harg7 arg8 harg8 arg9 harg9 arg10 harg10 arg11 harg11 arg12 harg12 arg13 harg13 h2 X10 k
      = [⟨Rect.unit (s := S128x24576) (k0_off2 k) S128x256.size inb, k0_pay4 (wBlk (arg10.view.read (Elt F) X10) k.val)⟩] := by
  have hk : k.val < 96 := lt_of_lt_of_eq k.isLt trips1
  have a10 : ∀ inb, View.readAt (Elt F) arg10.view (Rect.unit (s := S1x24576x128) (k0_off1 k) S1x256x128.size inb).toLoadRect X10 = wBlk (arg10.view.read (Elt F) X10) k.val :=
    fun inb => ld_wBlk _ _ inb k.val hk (k0_off1_eq k)
  refine ⟨k0_off2_inb i k h2, ?_⟩
  unfold tripL_k0_t1 trip_k0_t1
  dsimp only
  rw [← a10 (k0_off1_inb i k h2)]

/-- After `k` trips the columns below `256 k` read the transposed values. -/
theorem read_pb1 (c : Dev nD) (i : grid0.Coords) (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole) (h2 : k0_cond2 i = 1#1)
    (X10 : BufTy.Contents (Elt F) arg10.view.ty) (f : BufTy.Contents (Elt F) arg13.view.ty) :
    ∀ k : ℕ, k ≤ 96 → ∀ y : S128x24576.Idx, (y 1).val < 256 * k →
      arg13.view.read (Elt F) (arg13.view.writes (Elt F) f (pb_k0_t1 (F := F) Variants.none c none i arg4 harg4 arg5 harg5 arg6 harg6 arg7 harg7 arg8 harg8 arg9 harg9 arg10 harg10 arg11 harg11 arg12 harg12 arg13 harg13 h2 X10 k)) y = vtOf (arg10.view.read (Elt F) X10) y := by
  intro k
  induction k with
  | zero => intro _ y hy; omega
  | succ k ih =>
    intro hk y hy
    have ht : k < k0_t1_loop.trips := by rw [trips1]; omega
    obtain ⟨inb, e⟩ := tripL1 c i arg4 harg4 arg5 harg5 arg6 harg6 arg7 harg7 arg8 harg8 arg9 harg9 arg10 harg10 arg11 harg11 arg12 harg12 arg13 harg13 h2 X10 ⟨k, ht⟩
    have es := pb_k0_t1_succ (F := F) Variants.none c none i arg4 harg4 arg5 harg5 arg6 harg6 arg7 harg7 arg8 harg8 arg9 harg9 arg10 harg10 arg11 harg11 arg12 harg12 arg13 harg13 h2 X10 ⟨k, ht⟩
    rw [e] at es
    have es' : pb_k0_t1 (F := F) Variants.none c none i arg4 harg4 arg5 harg5 arg6 harg6 arg7 harg7 arg8 harg8 arg9 harg9 arg10 harg10 arg11 harg11 arg12 harg12 arg13 harg13 h2 X10 (k + 1) = _ := es
    rw [es', List.singleton_append]
    have y0 : (y 0).val < 128 := (y 0).isLt
    have y1 : (y 1).val < 24576 := (y 1).isLt
    by_cases hlt : (y 1).val < 256 * k
    · refine (View.read_writes_cons_unit_of_not_mem arg13.view f inb _ _ y (k0_off2_eq ⟨k, ht⟩) 1 ?_).trans (ih (by omega) y hlt)
      show (y 1).val < 256 * k ∨ 256 * k + 256 ≤ (y 1).val
      exact .inl hlt
    · refine (View.read_writes_cons_unit_of_mem arg13.view f inb _ _ y (ix2 (n0 := 128) (n1 := 256) (y 0) ⟨(y 1).val % 256, Nat.mod_lt _ (by decide)⟩) (k0_off2_eq ⟨k, ht⟩) ?_).trans ?_
      · intro a
        match a with
        | ⟨0, _⟩ => show (y 0).val = 0 + (y 0).val; omega
        | ⟨1, _⟩ => show (y 1).val = 256 * k + (y 1).val % 256; omega
      · unfold vtOf
        have : (y 1).val / 256 = k := by omega
        rw [this]

/-- What the loop leaves is the values transposed, whatever was there before. -/
theorem writes_pb1 (c : Dev nD) (i : grid0.Coords) (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole) (h2 : k0_cond2 i = 1#1)
    (x6 : Vec F S1x24576x128 .fp8e4m3) (f : BufTy.Contents (Elt F) arg13.view.ty) (k : ℕ) (hk : k = 96) :
    arg13.view.writes (Elt F) f (pb_k0_t1 (F := F) Variants.none c none i arg4 harg4 arg5 harg5 arg6 harg6 arg7 harg7 arg8 harg8 arg9 harg9 arg10 harg10 arg11 harg11 arg12 harg12 arg13 harg13 h2 (harg10.unread x6) k) = harg13.unread (vtOf x6) := by
  subst hk
  refine harg13.eq_unread (funext fun y => ?_)
  refine (read_pb1 c i arg4 harg4 arg5 harg5 arg6 harg6 arg7 harg7 arg8 harg8 arg9 harg9 arg10 harg10 arg11 harg11 arg12 harg12 arg13 harg13 h2 _ f 96 le_rfl y (by have := (y 1).isLt; exact this)).trans ?_
  rw [harg10.read_unread]

end Cert.KernelIdeal.Body
-- ==== Proof.KPart1.lean ====
/-
  The first half of the body, in its three cases: the first point of the grid (the amax array is zeroed and the
  values transposed), the first point of a later key head (the values transposed), and every other point.
-/
module

public import proofs.«01_k».proof.Proof.KTrans

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The first half at a point that neither zeroes the amax array nor transposes the values: it leaves the running state over the key blocks before the point's own. -/
theorem part1B (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 : Vec F S8 .f32) (x4 : Vec F S1x512x128 .fp8e4m3) (x5 x6 : Vec F S1x24576x128 .fp8e4m3)
    (x8 : Vec F S24x8x128 .f32) (xs : Vec F S128x24576 .bf16) (hc0 : ¬ cond0_0 i) (hc1 : ¬ cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (k0_part1 i arg4 harg4 arg5 harg5 arg6 harg6 arg7 harg7 arg8 harg8 arg9 harg9 arg10 harg10 arg11 harg11 arg12 harg12 arg13 harg13)
        (fun r => iprop(⌜r = ⟨BitVec.ofNat 32 (i 1).val, BitVec.ofNat 32 (i 3).val, (Scalar.addi (Scalar.muli (BitVec.ofNat 32 (i 1).val) 3#32) (BitVec.ofNat 32 (i 2).val)), k0_pay5 (at24 x0 i) (at8 x1 i), k0_pay6 x4, (Scalar.addi 0#32 (Scalar.muli (Scalar.divsi (Scalar.subi (BitVec.ofNat 32 (i 3).val) 0#32) 1#32) 1#32)), (stT (at24 x0 i) (at8 x1 i) x4 x5 xs (i 3).val).1, (stT (at24 x0 i) (at8 x1 i) x4 x5 xs (i 3).val).2.1, (stT (at24 x0 i) (at8 x1 i) x4 x5 xs (i 3).val).2.2⟩⌝ ∗ (arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread xs))) := by
  simp only [k0_part1_eq_skeleton]; unfold k0_part1_skel
  iintro ⟨H0, H1, H4, H5, H6, H8, HS⟩
  sl_exec (disch := first | sl_exact hc0 | sl_exact hc1)
  sl_step
  isplitr
  · ipureintro
    have e0 : part1B.sl.r i arg4 harg4 x0 = at24 x0 i := by
      unfold part1B.sl.r
      rw [View.readAt_eq_ld, harg4.read_unread]; exact ld_at24 _ _ _ _
    have e1 : part1B.sl.r_1 i arg5 harg5 x1 = at8 x1 i := by
      unfold part1B.sl.r_1
      rw [View.readAt_eq_ld, harg5.read_unread]; exact ld_at8 _ _ _ _
    have e4 : View.readAt (Elt F) arg8.view (Rect.unit (s := S1x512x128) ![0, 0, 0] S1x512x128.size inb_S1x512x128_S1x512x128_0_0_0).toLoadRect (harg8.unread x4) = x4 := by
      rw [View.readAt_eq_ld, harg8.read_unread]
      exact View.ld_unit_zero (by decide) _ _
    have et : Scf.trips (k0_t2_loop i).lb (k0_t2_loop i).ub (k0_t2_loop i).st = (i 3).val := trips2 i
    simp only [e0, e1, e4, et, st2_eq c i arg4 harg4 arg5 harg5 arg6 harg6 arg7 harg7 arg8 harg8 arg9 harg9 arg10 harg10 arg11 harg11 arg12 harg12 arg13 harg13 _ _ _ _ _ _ le_rfl, harg9.read_unread, harg13.read_unread]
    rfl
  isplitl [H0]; · iexact H0
  isplitl [H1]; · iexact H1
  isplitl [H4]; · iexact H4
  isplitl [H5]; · iexact H5
  isplitl [H6]; · iexact H6
  isplitl [H8]; · iexact H8
  iexact HS

set_option maxHeartbeats 3200000 in
/-- The first half at the first point of a later key head: it transposes the values, then does as every other point. -/
theorem part1C (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 : Vec F S8 .f32) (x4 : Vec F S1x512x128 .fp8e4m3) (x5 x6 : Vec F S1x24576x128 .fp8e4m3)
    (x8 : Vec F S24x8x128 .f32) (xs : Vec F S128x24576 .bf16) (hc0 : ¬ cond0_0 i) (hc1 : cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (k0_part1 i arg4 harg4 arg5 harg5 arg6 harg6 arg7 harg7 arg8 harg8 arg9 harg9 arg10 harg10 arg11 harg11 arg12 harg12 arg13 harg13)
        (fun r => iprop(⌜r = ⟨BitVec.ofNat 32 (i 1).val, BitVec.ofNat 32 (i 3).val, (Scalar.addi (Scalar.muli (BitVec.ofNat 32 (i 1).val) 3#32) (BitVec.ofNat 32 (i 2).val)), k0_pay5 (at24 x0 i) (at8 x1 i), k0_pay6 x4, (Scalar.addi 0#32 (Scalar.muli (Scalar.divsi (Scalar.subi (BitVec.ofNat 32 (i 3).val) 0#32) 1#32) 1#32)), (stT (at24 x0 i) (at8 x1 i) x4 x5 (vtOf x6) (i 3).val).1, (stT (at24 x0 i) (at8 x1 i) x4 x5 (vtOf x6) (i 3).val).2.1, (stT (at24 x0 i) (at8 x1 i) x4 x5 (vtOf x6) (i 3).val).2.2⟩⌝ ∗ (arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread (vtOf x6)))) := by
  simp only [k0_part1_eq_skeleton]; unfold k0_part1_skel
  iintro ⟨H0, H1, H4, H5, H6, H8, HS⟩
  sl_exec (disch := first | sl_exact hc0 | sl_exact hc1)
  sl_step
  isplitr
  · ipureintro
    have e0 : part1C.sl.r i arg4 harg4 x0 = at24 x0 i := by
      unfold part1C.sl.r
      rw [View.readAt_eq_ld, harg4.read_unread]; exact ld_at24 _ _ _ _
    have e1 : part1C.sl.r_1 i arg5 harg5 x1 = at8 x1 i := by
      unfold part1C.sl.r_1
      rw [View.readAt_eq_ld, harg5.read_unread]; exact ld_at8 _ _ _ _
    have e4 : View.readAt (Elt F) arg8.view (Rect.unit (s := S1x512x128) ![0, 0, 0] S1x512x128.size inb_S1x512x128_S1x512x128_0_0_0).toLoadRect (harg8.unread x4) = x4 := by
      rw [View.readAt_eq_ld, harg8.read_unread]
      exact View.ld_unit_zero (by decide) _ _
    have et : Scf.trips (k0_t2_loop i).lb (k0_t2_loop i).ub (k0_t2_loop i).st = (i 3).val := trips2 i
    simp only [e0, e1, e4, et, st2_eq c i arg4 harg4 arg5 harg5 arg6 harg6 arg7 harg7 arg8 harg8 arg9 harg9 arg10 harg10 arg11 harg11 arg12 harg12 arg13 harg13 _ _ _ _ _ _ le_rfl, writes_pb1 c i arg4 harg4 arg5 harg5 arg6 harg6 arg7 harg7 arg8 harg8 arg9 harg9 arg10 harg10 arg11 harg11 arg12 harg12 arg13 harg13 hc1 x6 _ _ (show Scf.trips k0_t1_loop.lb k0_t1_loop.ub k0_t1_loop.st = 96 from trips1), harg9.read_unread, harg13.read_unread]
    rfl
  isplitl [H0]; · iexact H0
  isplitl [H1]; · iexact H1
  isplitl [H4]; · iexact H4
  isplitl [H5]; · iexact H5
  isplitl [H6]; · iexact H6
  isplitl [H8]; · iexact H8
  rw [writes_pb1 c i arg4 harg4 arg5 harg5 arg6 harg6 arg7 harg7 arg8 harg8 arg9 harg9 arg10 harg10 arg11 harg11 arg12 harg12 arg13 harg13 hc1 x6 _ _ (show Scf.trips k0_t1_loop.lb k0_t1_loop.ub k0_t1_loop.st = 96 from trips1)]
  iexact HS

set_option maxHeartbeats 3200000 in
/-- The first half at the first point of the grid: it zeroes the amax array and transposes the values first. -/
theorem part1A (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 : Vec F S8 .f32) (x4 : Vec F S1x512x128 .fp8e4m3) (x5 x6 : Vec F S1x24576x128 .fp8e4m3)
    (x8 : Vec F S24x8x128 .f32) (xs : Vec F S128x24576 .bf16) (hc0 : cond0_0 i) (hc1 : cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (k0_part1 i arg4 harg4 arg5 harg5 arg6 harg6 arg7 harg7 arg8 harg8 arg9 harg9 arg10 harg10 arg11 harg11 arg12 harg12 arg13 harg13)
        (fun r => iprop(⌜r = ⟨BitVec.ofNat 32 (i 1).val, BitVec.ofNat 32 (i 3).val, (Scalar.addi (Scalar.muli (BitVec.ofNat 32 (i 1).val) 3#32) (BitVec.ofNat 32 (i 2).val)), k0_pay5 (at24 x0 i) (at8 x1 i), k0_pay6 x4, (Scalar.addi 0#32 (Scalar.muli (Scalar.divsi (Scalar.subi (BitVec.ofNat 32 (i 3).val) 0#32) 1#32) 1#32)), (stT (at24 x0 i) (at8 x1 i) x4 x5 (vtOf x6) (i 3).val).1, (stT (at24 x0 i) (at8 x1 i) x4 x5 (vtOf x6) (i 3).val).2.1, (stT (at24 x0 i) (at8 x1 i) x4 x5 (vtOf x6) (i 3).val).2.2⟩⌝ ∗ (arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread k0_pay3) ∗ (arg13.view.loc (c : Thread nD τ) ↦[arg13.view.set]{fullShare} harg13.unread (vtOf x6)))) := by
  simp only [k0_part1_eq_skeleton]; unfold k0_part1_skel
  iintro ⟨H0, H1, H4, H5, H6, H8, HS⟩
  sl_exec (disch := first | sl_exact hc0 | sl_exact hc1)
  sl_step
  isplitr
  · ipureintro
    have e0 : part1A.sl.r i arg4 harg4 x0 = at24 x0 i := by
      unfold part1A.sl.r
      rw [View.readAt_eq_ld, harg4.read_unread]; exact ld_at24 _ _ _ _
    have e1 : part1A.sl.r_1 i arg5 harg5 x1 = at8 x1 i := by
      unfold part1A.sl.r_1
      rw [View.readAt_eq_ld, harg5.read_unread]; exact ld_at8 _ _ _ _
    have e4 : View.readAt (Elt F) arg8.view (Rect.unit (s := S1x512x128) ![0, 0, 0] S1x512x128.size inb_S1x512x128_S1x512x128_0_0_0).toLoadRect (harg8.unread x4) = x4 := by
      rw [View.readAt_eq_ld, harg8.read_unread]
      exact View.ld_unit_zero (by decide) _ _
    have et : Scf.trips (k0_t2_loop i).lb (k0_t2_loop i).ub (k0_t2_loop i).st = (i 3).val := trips2 i
    simp only [e0, e1, e4, et, st2_eq c i arg4 harg4 arg5 harg5 arg6 harg6 arg7 harg7 arg8 harg8 arg9 harg9 arg10 harg10 arg11 harg11 arg12 harg12 arg13 harg13 _ _ _ _ _ _ le_rfl, writes_pb1 c i arg4 harg4 arg5 harg5 arg6 harg6 arg7 harg7 arg8 harg8 arg9 harg9 arg10 harg10 arg11 harg11 arg12 harg12 arg13 harg13 hc1 x6 _ _ (show Scf.trips k0_t1_loop.lb k0_t1_loop.ub k0_t1_loop.st = 96 from trips1), harg9.read_unread, harg13.read_unread]
    rfl
  isplitl [H0]; · iexact H0
  isplitl [H1]; · iexact H1
  isplitl [H4]; · iexact H4
  isplitl [H5]; · iexact H5
  isplitl [H6]; · iexact H6
  isplitl [H8]
  · have e8 : arg12.view.writes (Elt F) arg12.view.junk (part1A.sl.H8_1 (F := F)) = harg12.unread k0_pay3 := by
      refine harg12.eq_unread (funext fun y => ?_)
      unfold part1A.sl.H8_1
      exact View.read_writes_cons_unit_of_mem arg12.view _ inb_S24x8x128_S24x8x128_0_0_0 _ _ y y (off' := fun _ => 0) (by decide) (fun a => (Nat.zero_add _).symm)
    rw [e8]
    iexact H8
  rw [writes_pb1 c i arg4 harg4 arg5 harg5 arg6 harg6 arg7 harg7 arg8 harg8 arg9 harg9 arg10 harg10 arg11 harg11 arg12 harg12 arg13 harg13 hc1 x6 _ _ (show Scf.trips k0_t1_loop.lb k0_t1_loop.ub k0_t1_loop.st = 96 from trips1)]
  iexact HS

end Cert.KernelIdeal.Body
-- ==== Proof.KPart2.lean ====
/-
  The second half of the body: the masked block and the normalisation.  Started from the running state it
  returns the finished output block, and leaves the buffers it reads as they were.
-/
module

public import proofs.«01_k».proof.Proof.KVals

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The second half of the body returns the finished block: the masked step at key block `qi` from the state it is
    given, times the reciprocal of the sum, times the value scale. -/
theorem part2 (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole) (arg1 arg3 : BitVec 32) (v22 : F .f32) (v24 : FVec F S512x128 .fp8e4m3) (v32 : BitVec 32)
    (v33_0 : FVec F S1x512 .f32) (v33_1 : FVec F S1x512 .f32) (v33_2 : FVec F S128x512 .f32)
    (x2 : Vec F S8 .f32) (x5 : Vec F S1x24576x128 .fp8e4m3) (xs : Vec F S128x24576 .bf16) (E : Set ℕ) :
    (iprop((arg6.view.loc (c : Thread nD τ) ↦[arg6.view.set]{fullShare} harg6.unread x2) ∗ (arg9.view.loc (c : Thread nD τ) ↦[arg9.view.set]{fullShare} harg9.unread x5) ∗ (arg13.view.loc (c : Thread nD τ) ↦[arg13.view.set]{fullShare} harg13.unread xs)) : sProp 𝕄)
    ⊢ wp frame (wpE (defs₀ (F := F)) Variants.none c none) E
        (k0_part2 i arg4 harg4 arg5 harg5 arg6 harg6 arg7 harg7 arg8 harg8 arg9 harg9 arg10 harg10 arg11 harg11 arg12 harg12 arg13 harg13 arg1 arg3 v22 v24 v32 v33_0 v33_1 v33_2)
        (fun r => iprop(⌜r = k0_pay22 arg3 v22 v24 v33_0 v33_1 v33_2 (kBlk x5 (i 3).val) (vBlk xs (i 3).val) (at8 x2 i)⌝ ∗ (arg6.view.loc (c : Thread nD τ) ↦[arg6.view.set]{fullShare} harg6.unread x2) ∗ (arg9.view.loc (c : Thread nD τ) ↦[arg9.view.set]{fullShare} harg9.unread x5) ∗ (arg13.view.loc (c : Thread nD τ) ↦[arg13.view.set]{fullShare} harg13.unread xs))) := by
  simp only [k0_part2_eq_skeleton]; unfold k0_part2_skel
  iintro ⟨H2, H5, HS⟩
  sl_exec
  sl_step
  isplitr
  · ipureintro
    have r3 : (i 3).val < 48 := (i 3).isLt
    have a9 : ∀ inb, View.readAt (Elt F) arg9.view (Rect.unit (s := S1x24576x128) (k0_off9 i) S1x512x128.size inb).toLoadRect (harg9.unread x5) = kBlk x5 (i 3).val := by
      intro inb
      rw [View.readAt_eq_ld, harg9.read_unread]
      exact ld_kBlk _ _ inb _ r3 (k0_off9_eq i)
    have a13 : ∀ inb, View.readAt (Elt F) arg13.view (Rect.unit (s := S128x24576) (k0_off10 i) S128x512.size inb).toLoadRect (harg13.unread xs) = vBlk xs (i 3).val := by
      intro inb
      rw [View.readAt_eq_ld, harg13.read_unread]
      exact ld_vBlk _ _ inb _ r3 (k0_off10_eq i)
    have e0 : Scf.trips (k0_t3_loop i).lb (k0_t3_loop i).ub (k0_t3_loop i).st = 0 := trips3 i
    have es : part2.sl.r i arg6 harg6 x2 = at8 x2 i := by
      unfold part2.sl.r
      first
        | (rw [View.readAt_eq_ld, harg6.read_unread]; exact ld_at8 _ _ _ _)
        | trace_state
    rw [a9, a13, es, e0]
    rfl
  isplitl [H2]; · iexact H2
  isplitl [H5]; · iexact H5
  iexact HS

end Cert.KernelIdeal.Body
-- ==== Proof.KBody.lean ====
/-
  The whole body at a grid point: what it leaves in the two result buffers and in the scratch array, as functions of the
  blocks it reads.
-/
module

public import proofs.«01_k».proof.Proof.KPart1
public import proofs.«01_k».proof.Proof.KPart2

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

set_option maxHeartbeats 3200000 in
/-- The body, given what its first half leaves in the amax array (`x8'`) and in the scratch array (`xs'`). -/
theorem body_of (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 x2 : Vec F S8 .f32) (x3 : Vec F S24 .f32) (x4 : Vec F S1x512x128 .fp8e4m3) (x5 x6 : Vec F S1x24576x128 .fp8e4m3)
    (x7 : Vec F S1x512x128 .fp8e4m3) (x8 : Vec F S24x8x128 .f32) (xs : Vec F S128x24576 .bf16)
    (x8' : Vec F S24x8x128 .f32) (xs' : Vec F S128x24576 .bf16)
    (hp1 : ∀ E : Set ℕ, (iprop((arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8) ∗ (arg13.view.loc (c : Thread nD τ) ↦[arg13.view.set]{fullShare} harg13.unread xs)) : sProp 𝕄)
      ⊢ wp frame (wpE (defs₀ (F := F)) Variants.none c none) E
        (k0_part1 i arg4 harg4 arg5 harg5 arg6 harg6 arg7 harg7 arg8 harg8 arg9 harg9 arg10 harg10 arg11 harg11 arg12 harg12 arg13 harg13)
        (fun r => iprop(⌜r = ⟨BitVec.ofNat 32 (i 1).val, BitVec.ofNat 32 (i 3).val, (Scalar.addi (Scalar.muli (BitVec.ofNat 32 (i 1).val) 3#32) (BitVec.ofNat 32 (i 2).val)), k0_pay5 (at24 x0 i) (at8 x1 i), k0_pay6 x4, (Scalar.addi 0#32 (Scalar.muli (Scalar.divsi (Scalar.subi (BitVec.ofNat 32 (i 3).val) 0#32) 1#32) 1#32)), (stT (at24 x0 i) (at8 x1 i) x4 x5 xs' (i 3).val).1, (stT (at24 x0 i) (at8 x1 i) x4 x5 xs' (i 3).val).2.1, (stT (at24 x0 i) (at8 x1 i) x4 x5 xs' (i 3).val).2.2⟩⌝ ∗ (arg4.view.loc (c : Thread nD τ) ↦[arg4.view.set]{fullShare} harg4.unread x0) ∗ (arg5.view.loc (c : Thread nD τ) ↦[arg5.view.set]{fullShare} harg5.unread x1) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg12.view.loc (c : Thread nD τ) ↦[arg12.view.set]{fullShare} harg12.unread x8') ∗ (arg13.view.loc (c : Thread nD τ) ↦[arg13.view.set]{fullShare} harg13.unread xs'))))
    (E : Set ℕ) :
    (iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread x7) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (cc0_gqa_prefill i arg4 harg4 arg5 harg5 arg6 harg6 arg7 harg7 arg8 harg8 arg9 harg9 arg10 harg10 arg11 harg11 arg12 harg12 arg13 harg13)
        (fun _ => iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread (k0_pay2 (oPt i x0 x1 x2 x4 x5 xs') (at24 x3 i))) ∗ (arg12.view.loc (c : Thread nD τ) ↦[arg12.view.set]{fullShare} harg12.unread (amaxPut x8' i (oPt i x0 x1 x2 x4 x5 xs'))) ∗ (arg13.view.loc (c : Thread nD τ) ↦[arg13.view.set]{fullShare} harg13.unread xs'))) := by
  rw [cc0_gqa_prefill_eq_skeleton]; unfold cc0_gqa_prefill_skel
  have hcut1 := hp1 E
  have hcut2 := fun a1 a3 w22 w24 w32 w0 w1 w2 => part2 (F := F) c i arg4 harg4 arg5 harg5 arg6 harg6 arg7 harg7 arg8 harg8 arg9 harg9 arg10 harg10 arg11 harg11 arg12 harg12 arg13 harg13 a1 a3 w22 w24 w32 w0 w1 w2 x2 x5 xs' E
  iintro ⟨H0, H1, H2, H3, H4, H5, H6, H7, H8, HS⟩
  sl_exec
  sl_step
  have ho : k0_part2_r = oPt i x0 x1 x2 x4 x5 xs' := by
    rw [hk0_part2_0]
    cases hk0_part1_0
    rfl
  have e3 : body_of.sl.r i arg7 harg7 x3 = at24 x3 i := by
    unfold body_of.sl.r
    rw [View.readAt_eq_ld, harg7.read_unread]; exact ld_at24 _ _ _ _
  have e7 : arg11.view.writes (Elt F) (harg11.unread x7)
      [⟨Rect.unit (s := S1x512x128) ![0, 0, 0] S1x512x128.size inb_S1x512x128_S1x512x128_0_0_0, k0_pay2 k0_part2_r (body_of.sl.r i arg7 harg7 x3)⟩]
      = harg11.unread (k0_pay2 (oPt i x0 x1 x2 x4 x5 xs') (at24 x3 i)) := by
    rw [ho, e3]
    refine harg11.eq_unread (funext fun y => ?_)
    exact View.read_writes_cons_unit_of_mem arg11.view _ inb_S1x512x128_S1x512x128_0_0_0 _ _ y y (off' := fun _ => 0) (by decide) (fun a => (Nat.zero_add _).symm)
  have e8 : ∀ inb inb', arg12.view.writes (Elt F) (harg12.unread x8')
      [⟨Rect.unit (s := S24x8x128) (k0_off11 i) S1x8x128.size inb, k0_pay1 k0_part2_r
            (View.readAt (Elt F) arg12.view (Rect.unit (s := S24x8x128) (k0_off11 i) S1x8x128.size inb').toLoadRect (harg12.unread x8'))⟩]
      = harg12.unread (amaxPut x8' i (oPt i x0 x1 x2 x4 x5 xs')) := by
    intro inb inb'
    rw [ho, View.readAt_eq_ld, harg12.read_unread, ld_amaxRow]
    refine harg12.eq_unread (funext fun y => ?_)
    unfold amaxPut
    split
    · rename_i hy
      refine View.read_writes_cons_unit_of_mem arg12.view _ inb _ _ y (ix3 (n0 := 1) (n1 := 8) (n2 := 128) 0 (y 1) (y 2)) (k0_off11_eq i) (fun a => ?_)
      match a with
      | ⟨0, _⟩ => exact hy
      | ⟨1, _⟩ => show (y 1).val = 0 + (y 1).val; omega
      | ⟨2, _⟩ => show (y 2).val = 0 + (y 2).val; omega
    · rename_i hy
      refine (View.read_writes_cons_unit_of_not_mem arg12.view _ inb _ _ y (k0_off11_eq i) 0 ?_).trans ?_
      · show (y 0).val < 3 * (i 1).val + (i 2).val ∨ 3 * (i 1).val + (i 2).val + 1 ≤ (y 0).val
        omega
      · exact congrFun (harg12.read_unread x8') y
  rw [e7, e8]
  isplitl [Hk0_part1_1]; · iexact Hk0_part1_1
  isplitl [Hk0_part1_2]; · iexact Hk0_part1_2
  isplitl [Hk0_part2_1]; · iexact Hk0_part2_1
  isplitl [H3]; · iexact H3
  isplitl [Hk0_part1_3]; · iexact Hk0_part1_3
  isplitl [Hk0_part2_2]; · iexact Hk0_part2_2
  isplitl [Hk0_part1_5]; · iexact Hk0_part1_5
  isplitl [H7]; · iexact H7
  isplitl [Hk0_part1_6]; · iexact Hk0_part1_6
  iexact Hk0_part2_3

/-- The body at the first point of the grid. -/
theorem bodyA (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 x2 : Vec F S8 .f32) (x3 : Vec F S24 .f32) (x4 : Vec F S1x512x128 .fp8e4m3) (x5 x6 : Vec F S1x24576x128 .fp8e4m3)
    (x7 : Vec F S1x512x128 .fp8e4m3) (x8 : Vec F S24x8x128 .f32) (xs : Vec F S128x24576 .bf16) (hc0 : cond0_0 i) (hc1 : cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread x7) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (cc0_gqa_prefill i arg4 harg4 arg5 harg5 arg6 harg6 arg7 harg7 arg8 harg8 arg9 harg9 arg10 harg10 arg11 harg11 arg12 harg12 arg13 harg13)
        (fun _ => iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread (k0_pay2 (oPt i x0 x1 x2 x4 x5 (vtOf x6)) (at24 x3 i))) ∗ (arg12.view.loc (c : Thread nD τ) ↦[arg12.view.set]{fullShare} harg12.unread (amaxPut k0_pay3 i (oPt i x0 x1 x2 x4 x5 (vtOf x6)))) ∗ (arg13.view.loc (c : Thread nD τ) ↦[arg13.view.set]{fullShare} harg13.unread (vtOf x6)))) :=
  body_of c i arg4 harg4 arg5 harg5 arg6 harg6 arg7 harg7 arg8 harg8 arg9 harg9 arg10 harg10 arg11 harg11 arg12 harg12 arg13 harg13 x0 x1 x2 x3 x4 x5 x6 x7 x8 xs k0_pay3 (vtOf x6)
    (fun E => part1A c i arg4 harg4 arg5 harg5 arg6 harg6 arg7 harg7 arg8 harg8 arg9 harg9 arg10 harg10 arg11 harg11 arg12 harg12 arg13 harg13 x0 x1 x4 x5 x6 x8 xs hc0 hc1 E) E

/-- The body at the first point of a later key head. -/
theorem bodyC (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 x2 : Vec F S8 .f32) (x3 : Vec F S24 .f32) (x4 : Vec F S1x512x128 .fp8e4m3) (x5 x6 : Vec F S1x24576x128 .fp8e4m3)
    (x7 : Vec F S1x512x128 .fp8e4m3) (x8 : Vec F S24x8x128 .f32) (xs : Vec F S128x24576 .bf16) (hc0 : ¬ cond0_0 i) (hc1 : cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread x7) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (cc0_gqa_prefill i arg4 harg4 arg5 harg5 arg6 harg6 arg7 harg7 arg8 harg8 arg9 harg9 arg10 harg10 arg11 harg11 arg12 harg12 arg13 harg13)
        (fun _ => iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread (k0_pay2 (oPt i x0 x1 x2 x4 x5 (vtOf x6)) (at24 x3 i))) ∗ (arg12.view.loc (c : Thread nD τ) ↦[arg12.view.set]{fullShare} harg12.unread (amaxPut x8 i (oPt i x0 x1 x2 x4 x5 (vtOf x6)))) ∗ (arg13.view.loc (c : Thread nD τ) ↦[arg13.view.set]{fullShare} harg13.unread (vtOf x6)))) :=
  body_of c i arg4 harg4 arg5 harg5 arg6 harg6 arg7 harg7 arg8 harg8 arg9 harg9 arg10 harg10 arg11 harg11 arg12 harg12 arg13 harg13 x0 x1 x2 x3 x4 x5 x6 x7 x8 xs x8 (vtOf x6)
    (fun E => part1C c i arg4 harg4 arg5 harg5 arg6 harg6 arg7 harg7 arg8 harg8 arg9 harg9 arg10 harg10 arg11 harg11 arg12 harg12 arg13 harg13 x0 x1 x4 x5 x6 x8 xs hc0 hc1 E) E

/-- The body at every other point. -/
theorem bodyB (c : Dev nD) (i : grid0.Coords)
    (arg4 : Memref sig .tc .smem S24 .f32) (harg4 : arg4.IsWhole)
    (arg5 : Memref sig .tc .smem S8 .f32) (harg5 : arg5.IsWhole)
    (arg6 : Memref sig .tc .smem S8 .f32) (harg6 : arg6.IsWhole)
    (arg7 : Memref sig .tc .smem S24 .f32) (harg7 : arg7.IsWhole)
    (arg8 : Memref sig .tc .vmem S1x512x128 .fp8e4m3) (harg8 : arg8.IsWhole)
    (arg9 : Memref sig .tc .vmem S1x24576x128 .fp8e4m3) (harg9 : arg9.IsWhole)
    (arg10 : Memref sig .tc .vmem S1x24576x128 .fp8e4m3) (harg10 : arg10.IsWhole)
    (arg11 : Memref sig .tc .vmem S1x512x128 .fp8e4m3) (harg11 : arg11.IsWhole)
    (arg12 : Memref sig .tc .vmem S24x8x128 .f32) (harg12 : arg12.IsWhole)
    (arg13 : Memref sig .tc .vmem S128x24576 .bf16) (harg13 : arg13.IsWhole)
    (x0 : Vec F S24 .f32) (x1 x2 : Vec F S8 .f32) (x3 : Vec F S24 .f32) (x4 : Vec F S1x512x128 .fp8e4m3) (x5 x6 : Vec F S1x24576x128 .fp8e4m3)
    (x7 : Vec F S1x512x128 .fp8e4m3) (x8 : Vec F S24x8x128 .f32) (xs : Vec F S128x24576 .bf16) (hc0 : ¬ cond0_0 i) (hc1 : ¬ cond0_1 i) (E : Set ℕ) :
    (iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread x7) ∗ (arg12.view.loc (c : Thread nD τ) ↦[arg12.view.set]{fullShare} harg12.unread x8) ∗ (arg13.view.loc (c : Thread nD τ) ↦[arg13.view.set]{fullShare} harg13.unread xs)) : sProp 𝕄)
    ⊢ wp frame (wpE (defs₀ (F := F)) Variants.none c none) E
        (cc0_gqa_prefill i arg4 harg4 arg5 harg5 arg6 harg6 arg7 harg7 arg8 harg8 arg9 harg9 arg10 harg10 arg11 harg11 arg12 harg12 arg13 harg13)
        (fun _ => iprop((arg4.view.loc (c : Thread nD τ) ↦[arg4.view.set]{fullShare} harg4.unread x0) ∗ (arg5.view.loc (c : Thread nD τ) ↦[arg5.view.set]{fullShare} harg5.unread x1) ∗ (arg6.view.loc (c : Thread nD τ) ↦[arg6.view.set]{fullShare} harg6.unread x2) ∗ (arg7.view.loc (c : Thread nD τ) ↦[arg7.view.set]{fullShare} harg7.unread x3) ∗ (arg8.view.loc (c : Thread nD τ) ↦[arg8.view.set]{fullShare} harg8.unread x4) ∗ (arg9.view.loc (c : Thread nD τ) ↦[arg9.view.set]{fullShare} harg9.unread x5) ∗ (arg10.view.loc (c : Thread nD τ) ↦[arg10.view.set]{fullShare} harg10.unread x6) ∗ (arg11.view.loc (c : Thread nD τ) ↦[arg11.view.set]{fullShare} harg11.unread (k0_pay2 (oPt i x0 x1 x2 x4 x5 xs) (at24 x3 i))) ∗ (arg12.view.loc (c : Thread nD τ) ↦[arg12.view.set]{fullShare} harg12.unread (amaxPut x8 i (oPt i x0 x1 x2 x4 x5 xs))) ∗ (arg13.view.loc (c : Thread nD τ) ↦[arg13.view.set]{fullShare} harg13.unread xs))) :=
  body_of c i arg4 harg4 arg5 harg5 arg6 harg6 arg7 harg7 arg8 harg8 arg9 harg9 arg10 harg10 arg11 harg11 arg12 harg12 arg13 harg13 x0 x1 x2 x3 x4 x5 x6 x7 x8 xs x8 xs
    (fun E => part1B c i arg4 harg4 arg5 harg5 arg6 harg6 arg7 harg7 arg8 harg8 arg9 harg9 arg10 harg10 arg11 harg11 arg12 harg12 arg13 harg13 x0 x1 x4 x5 x6 x8 xs hc0 hc1 E) E

end Cert.KernelIdeal.Body
-- ==== Proof.KFrame.lean ====
/-
  The run of the whole program with its results named: what every grid point leaves in the two result windows and in the
  scratch array, the body's obligation at every point, and the launch.
-/
module

public import proofs.«01_k».proof.Proof.KBody
public import Idealize.ShloMosaic.Lib.Claim

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The scratch array after point `n`: the values of the point's key head, transposed at the head's first point. -/
def scrAt (c : Dev nD) (n : ℕ) (hn : n < cfg0.N) : Vec F S128x24576 .bf16 :=
  vtOf (iblk m c 6 ⟨n / 144 * 144, lt_of_le_of_lt (Nat.div_mul_le_self n 144) hn⟩)

/-- The output block of point `n`, one column per query row. -/
def oAt (c : Dev nD) (n : ℕ) (hn : n < cfg0.N) : FVec F S128x512 .f32 :=
  oPt (grid0.coords ⟨n, hn⟩) (iblk m c 0 ⟨n, hn⟩) (iblk m c 1 ⟨n, hn⟩) (iblk m c 2 ⟨n, hn⟩) (iblk m c 4 ⟨n, hn⟩) (iblk m c 5 ⟨n, hn⟩) (scrAt m c n hn)

/-- The codes point `t` stores. -/
def codesAt (c : Dev nD) (t : Fin cfg0.N) : Vec F S1x512x128 .fp8e4m3 :=
  k0_pay2 (oAt m c t.val t.isLt) (at24 (iblk m c 3 t) (grid0.coords t))

/-- The amax array after point `n`: zeros raised by every point so far, each in its head's row. -/
def amaxAt (c : Dev nD) : (n : ℕ) → n < cfg0.N → Vec F S24x8x128 .f32
  | 0, hn => amaxPut k0_pay3 (grid0.coords ⟨0, hn⟩) (oAt m c 0 hn)
  | n + 1, hn => amaxPut (amaxAt c n (Nat.lt_of_succ_lt hn)) (grid0.coords ⟨n + 1, hn⟩) (oAt m c (n + 1) hn)

/-- The region's invariant before point `n`: at first the scratch array at anything, afterwards at `scrAt` of the
    point before; and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c n hn)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0_0 fullShare (scrAt m c n hn)) ∗ (∃ r, prngReg c r)) := rfl

/-- The invariant before a later point. -/
theorem PhiS_pos (c : Dev nD) (n : ℕ) (h : n ≤ cfg0.N) (hz : n ≠ 0) :
    PhiS m c n h = iprop(iprop(owns (c : Thread nD τ) scM0_0 fullShare (scrAt m c (n - 1) (by omega))) ∗ (∃ r, prngReg c r)) := by
  cases n with
  | zero => exact absurd rfl hz
  | succ n => rfl

/-- The proof data of the one pipeline on core `c`: after the body at point `t` each input's buffer at its block, the codes
    window at `codesAt`, the amax window at `amaxAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => codesAt m c t
    | ⟨8, _⟩ => amaxAt m c t.val t.isLt
  Φ t := PhiS m c t.val (Nat.le_of_lt_succ t.isLt)
  q _ := fullShare
  owed _ := 0

/-- The arrays of the proof data are those the region starts from. -/
theorem A_eq (c : Dev nD) (w : Fin cfg0.W) : (dats m 0 c).A w = V m c (Pipeline.arrRef spec0 w) := by
  dsimp only [dats]

/-- The invariant before point `t`, unfolded. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = codesAt m c t := by dsimp only [dats]
/-- What window 8 holds after a point. -/
theorem after0_8 (c : Dev nD) (t : Fin cfg0.N) : (dats m 0 c).after 8 t = amaxAt m c t.val t.isLt := by dsimp only [dats]

/-- What window 0 holds before a point: its block. -/
theorem before0_0 (c : Dev nD) (t : Fin cfg0.N) (d) : (dats m 0 c).before 0 t d = iblk m c 0 t :=
  before0_0_of m (dats m 0 c) (A_eq m c 0) (after0_0 m c) t d
/-- What window 1 holds before a point: its block. -/
theorem before0_1 (c : Dev nD) (t : Fin cfg0.N) (d) : (dats m 0 c).before 1 t d = iblk m c 1 t :=
  before0_1_of m (dats m 0 c) (A_eq m c 1) (after0_1 m c) t d
/-- What window 2 holds before a point: its block. -/
theorem before0_2 (c : Dev nD) (t : Fin cfg0.N) (d) : (dats m 0 c).before 2 t d = iblk m c 2 t :=
  before0_2_of m (dats m 0 c) (A_eq m c 2) (after0_2 m c) t d
/-- What window 3 holds before a point: its block. -/
theorem before0_3 (c : Dev nD) (t : Fin cfg0.N) (d) : (dats m 0 c).before 3 t d = iblk m c 3 t :=
  before0_3_of m (dats m 0 c) (A_eq m c 3) (after0_3 m c) t d
/-- What window 4 holds before a point: its block. -/
theorem before0_4 (c : Dev nD) (t : Fin cfg0.N) (d) : (dats m 0 c).before 4 t d = iblk m c 4 t :=
  before0_4_of m (dats m 0 c) (A_eq m c 4) (after0_4 m c) t d
/-- What window 5 holds before a point: its block. -/
theorem before0_5 (c : Dev nD) (t : Fin cfg0.N) (d) : (dats m 0 c).before 5 t d = iblk m c 5 t :=
  before0_5_of m (dats m 0 c) (A_eq m c 5) (after0_5 m c) t d
/-- What window 6 holds before a point: its block. -/
theorem before0_6 (c : Dev nD) (t : Fin cfg0.N) (d) : (dats m 0 c).before 6 t d = iblk m c 6 t :=
  before0_6_of m (dats m 0 c) (A_eq m c 6) (after0_6 m c) t d

/-- The amax window is not written back before the last point: at a later point it holds what the point before left. -/
theorem before0_8 (c : Dev nD) (t : Fin cfg0.N) (ht : t.val ≠ 0) (d) :
    (dats m 0 c).before 8 t d = amaxAt m c (t.val - 1) (by omega) := by
  rw [(dats m 0 c).before_out_kept 8 rfl t ht ?_ (fun _ => rfl) (fun _ _ => rfl) d, after0_8]
  have hN : t.val < 2304 := lt_of_lt_of_eq t.isLt (show cfg0.N = 2304 from N_0)
  have := (flush0_8 ⟨t.val - 1, Nat.lt_of_le_of_lt (Nat.sub_le _ _) t.isLt⟩).not
  rw [Bool.eq_false_iff]
  refine this.mpr ?_
  dsimp only
  omega

/-- At the first point of a key head the scratch is filled from its block of values. -/
theorem scr_first (c : Dev nD) (t : Fin cfg0.N) (h1 : t.val % 144 = 0) : scrAt m c t.val t.isLt = vtOf (iblk m c 6 t) := by
  unfold scrAt
  congr 2
  exact Fin.ext (show t.val / 144 * 144 = t.val by omega)

/-- At the other points the scratch is as the point before left it. -/
theorem scr_next (c : Dev nD) (t : Fin cfg0.N) (h1 : ¬ t.val % 144 = 0) :
    scrAt m c (t.val - 1) (by omega) = scrAt m c t.val t.isLt := by
  unfold scrAt
  congr 2
  exact Fin.ext (show (t.val - 1) / 144 * 144 = t.val / 144 * 144 by omega)

/-- The amax array after the first point. -/
theorem amax_first (c : Dev nD) (t : Fin cfg0.N) (h0 : t.val = 0) :
    amaxAt m c t.val t.isLt = amaxPut k0_pay3 (grid0.coords t) (oAt m c t.val t.isLt) := by
  obtain ⟨n, hn⟩ := t
  dsimp only at h0
  subst h0
  rfl

/-- The amax array after a later point. -/
theorem amax_next (c : Dev nD) (t : Fin cfg0.N) (h0 : t.val ≠ 0) :
    amaxAt m c t.val t.isLt = amaxPut (amaxAt m c (t.val - 1) (by omega)) (grid0.coords t) (oAt m c t.val t.isLt) := by
  obtain ⟨n, hn⟩ := t
  cases n with
  | zero => exact absurd rfl h0
  | succ n => rfl

/-! ## The body's obligation -/

/-- A whole memref owned at `X` is its buffer held at the contents that read `X`, -/
theorem owns_unread (c : Dev nD) {sp : Space} {s : Shape} {e : EltTy} (M : Memref sig .tc sp s e) (h : M.IsWhole) (X : Vec F s e) :
    (owns (c : Thread nD τ) M fullShare X : sProp 𝕄) ⊢ (M.view.loc (c : Thread nD τ) ↦[M.view.set]{fullShare} h.unread X) := by
  unfold owns
  iintro ⟨%f, %hf, H⟩
  rw [← h.eq_unread hf]
  iexact H

/-- and back. -/
theorem unread_owns (c : Dev nD) {sp : Space} {s : Shape} {e : EltTy} (M : Memref sig .tc sp s e) (h : M.IsWhole) (X : Vec F s e) :
    (iprop(M.view.loc (c : Thread nD τ) ↦[M.view.set]{fullShare} h.unread X) : sProp 𝕄) ⊢ owns (c : Thread nD τ) M fullShare X := by
  unfold owns
  iintro H
  iexists _
  isplitr
  swap; · iexact H
  ipureintro
  exact h.read_unread X

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 3200000 in
/-- The body at a point, over its buffers owned by contents: the three cases of the body in one statement. -/
theorem body_owns (c : Dev nD) (t : Fin cfg0.N) (x7 : Vec F S1x512x128 .fp8e4m3) (x8 : Vec F S24x8x128 .f32) (xs : Vec F S128x24576 .bf16)
    (hx8 : t.val ≠ 0 → x8 = amaxAt m c (t.val - 1) (by omega))
    (hxs : t.val ≠ 0 → xs = scrAt m c (t.val - 1) (by omega)) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare x7 ∗ owns (c : Thread nD τ) (ms0_8 t) fullShare x8 ∗ owns (c : Thread nD τ) scM0_0 fullShare xs) : sProp 𝕄)
    ⊢ wp frame (wpE (defs₀ (F := F)) Variants.none c none) Set.univ (bodyAt0 t)
      (fun _ => iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare (codesAt m c t) ∗ owns (c : Thread nD τ) (ms0_8 t) fullShare (amaxAt m c t.val t.isLt) ∗ owns (c : Thread nD τ) scM0_0 fullShare (scrAt m c t.val t.isLt))) := by
  have hN : t.val < 2304 := lt_of_lt_of_eq t.isLt (show cfg0.N = 2304 from N_0)
  have hpre : (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare x7 ∗ owns (c : Thread nD τ) (ms0_8 t) fullShare x8 ∗ owns (c : Thread nD τ) scM0_0 fullShare xs) : sProp 𝕄) ⊢
      iprop(((ms0_0 t).view.loc (c : Thread nD τ) ↦[(ms0_0 t).view.set]{fullShare} (hs0_0 t).unread (iblk m c 0 t)) ∗ ((ms0_1 t).view.loc (c : Thread nD τ) ↦[(ms0_1 t).view.set]{fullShare} (hs0_1 t).unread (iblk m c 1 t)) ∗ ((ms0_2 t).view.loc (c : Thread nD τ) ↦[(ms0_2 t).view.set]{fullShare} (hs0_2 t).unread (iblk m c 2 t)) ∗ ((ms0_3 t).view.loc (c : Thread nD τ) ↦[(ms0_3 t).view.set]{fullShare} (hs0_3 t).unread (iblk m c 3 t)) ∗ ((ms0_4 t).view.loc (c : Thread nD τ) ↦[(ms0_4 t).view.set]{fullShare} (hs0_4 t).unread (iblk m c 4 t)) ∗ ((ms0_5 t).view.loc (c : Thread nD τ) ↦[(ms0_5 t).view.set]{fullShare} (hs0_5 t).unread (iblk m c 5 t)) ∗ ((ms0_6 t).view.loc (c : Thread nD τ) ↦[(ms0_6 t).view.set]{fullShare} (hs0_6 t).unread (iblk m c 6 t))
       ∗ ((ms0_7 t).view.loc (c : Thread nD τ) ↦[(ms0_7 t).view.set]{fullShare} (hs0_7 t).unread x7) ∗ ((ms0_8 t).view.loc (c : Thread nD τ) ↦[(ms0_8 t).view.set]{fullShare} (hs0_8 t).unread x8)
       ∗ (scM0_0.view.loc (c : Thread nD τ) ↦[scM0_0.view.set]{fullShare} (Memref.isWhole_whole cc0_scratch0 : scM0_0.IsWhole).unread xs)) := by
    refine BIClass.sep_mono (owns_unread _ _ _ _) ?_; refine BIClass.sep_mono (owns_unread _ _ _ _) ?_; refine BIClass.sep_mono (owns_unread _ _ _ _) ?_; refine BIClass.sep_mono (owns_unread _ _ _ _) ?_; refine BIClass.sep_mono (owns_unread _ _ _ _) ?_; refine BIClass.sep_mono (owns_unread _ _ _ _) ?_; refine BIClass.sep_mono (owns_unread _ _ _ _) ?_; refine BIClass.sep_mono (owns_unread _ _ _ _) ?_; refine BIClass.sep_mono (owns_unread _ _ _ _) ?_; exact owns_unread _ _ _ _
  have hpost : (iprop(((ms0_0 t).view.loc (c : Thread nD τ) ↦[(ms0_0 t).view.set]{fullShare} (hs0_0 t).unread (iblk m c 0 t)) ∗ ((ms0_1 t).view.loc (c : Thread nD τ) ↦[(ms0_1 t).view.set]{fullShare} (hs0_1 t).unread (iblk m c 1 t)) ∗ ((ms0_2 t).view.loc (c : Thread nD τ) ↦[(ms0_2 t).view.set]{fullShare} (hs0_2 t).unread (iblk m c 2 t)) ∗ ((ms0_3 t).view.loc (c : Thread nD τ) ↦[(ms0_3 t).view.set]{fullShare} (hs0_3 t).unread (iblk m c 3 t)) ∗ ((ms0_4 t).view.loc (c : Thread nD τ) ↦[(ms0_4 t).view.set]{fullShare} (hs0_4 t).unread (iblk m c 4 t)) ∗ ((ms0_5 t).view.loc (c : Thread nD τ) ↦[(ms0_5 t).view.set]{fullShare} (hs0_5 t).unread (iblk m c 5 t)) ∗ ((ms0_6 t).view.loc (c : Thread nD τ) ↦[(ms0_6 t).view.set]{fullShare} (hs0_6 t).unread (iblk m c 6 t))
       ∗ ((ms0_7 t).view.loc (c : Thread nD τ) ↦[(ms0_7 t).view.set]{fullShare} (hs0_7 t).unread (codesAt m c t)) ∗ ((ms0_8 t).view.loc (c : Thread nD τ) ↦[(ms0_8 t).view.set]{fullShare} (hs0_8 t).unread (amaxAt m c t.val t.isLt))
       ∗ (scM0_0.view.loc (c : Thread nD τ) ↦[scM0_0.view.set]{fullShare} (Memref.isWhole_whole cc0_scratch0 : scM0_0.IsWhole).unread (scrAt m c t.val t.isLt))) : sProp 𝕄) ⊢
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare (codesAt m c t) ∗ owns (c : Thread nD τ) (ms0_8 t) fullShare (amaxAt m c t.val t.isLt) ∗ owns (c : Thread nD τ) scM0_0 fullShare (scrAt m c t.val t.isLt)) := by
    refine BIClass.sep_mono (unread_owns _ _ _ _) ?_; refine BIClass.sep_mono (unread_owns _ _ _ _) ?_; refine BIClass.sep_mono (unread_owns _ _ _ _) ?_; refine BIClass.sep_mono (unread_owns _ _ _ _) ?_; refine BIClass.sep_mono (unread_owns _ _ _ _) ?_; refine BIClass.sep_mono (unread_owns _ _ _ _) ?_; refine BIClass.sep_mono (unread_owns _ _ _ _) ?_; refine BIClass.sep_mono (unread_owns _ _ _ _) ?_; refine BIClass.sep_mono (unread_owns _ _ _ _) ?_; exact unread_owns _ _ _ _
  refine triple_restated (W := wp frame (wpE (defs₀ (F := F)) Variants.none c none) Set.univ (bodyAt0 t)) (W' := wp frame (wpE (defs₀ (F := F)) Variants.none c none) Set.univ (bodyAt0 t)) ?_ rfl hpre (fun _ => hpost)
  clear hpre hpost
  unfold codesAt bodyAt0
  by_cases h1 : t.val % 144 = 0
  · by_cases h0 : t.val % 2304 = 0
    · have hz : t.val = 0 := by omega
      rw [amax_first m c t hz]
      unfold oAt
      rw [scr_first m c t h1]
      exact bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) x7 x8 xs ((hcond0_0 t).mpr h0) ((hcond0_1 t).mpr h1) Set.univ
    · have hz : t.val ≠ 0 := by omega
      rw [amax_next m c t hz, ← hx8 hz]
      unfold oAt
      rw [scr_first m c t h1]
      exact bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) x7 x8 xs (fun h => h0 ((hcond0_0 t).mp h)) ((hcond0_1 t).mpr h1) Set.univ
  · have hz : t.val ≠ 0 := by omega
    have h0 : ¬ t.val % 2304 = 0 := by omega
    rw [amax_next m c t hz, ← hx8 hz]
    unfold oAt
    rw [← scr_next m c t h1, ← hxs hz]
    exact bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) x7 x8 xs (fun h => h0 ((hcond0_0 t).mp h)) (fun h => h1 ((hcond0_1 t).mp h)) Set.univ

/-- A triple run beside a resource it does not touch. -/
theorem triple_framed {α : Type} {P R : sProp 𝕄} {W : sWPT 𝕄 α} [Idealize.SL.Sem.sWPT.Frameable W] {Q : α → sProp 𝕄} {K : α → sProp 𝕄}
    (h : P ⊢ W Q) (hK : ∀ a, iprop(Q a ∗ R) ⊢ K a) : iprop(P ∗ R) ⊢ W K :=
  (BIClass.sep_mono h (BI.Entails.refl _)).trans (Idealize.SL.Sem.sWPT.Frameable.frame.trans (W.mono hK))

/-- The body at a point, beside a resource it does not touch. -/
theorem body_framed (c : Dev nD) (t : Fin cfg0.N) (x7 : Vec F S1x512x128 .fp8e4m3) (x8 : Vec F S24x8x128 .f32) (xs : Vec F S128x24576 .bf16)
    (hx8 : t.val ≠ 0 → x8 = amaxAt m c (t.val - 1) (by omega))
    (hxs : t.val ≠ 0 → xs = scrAt m c (t.val - 1) (by omega)) (R : sProp 𝕄) (K : PUnit → sProp 𝕄)
    (hK : ∀ a, (iprop((owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (codesAt m c t) ∗ owns (c : Thread nD τ) (ms0_8 t) fullShare (amaxAt m c t.val t.isLt) ∗ owns (c : Thread nD τ) scM0_0 fullShare (scrAt m c t.val t.isLt)) ∗ R) : sProp 𝕄) ⊢ K a) :
    (iprop((owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (x7) ∗ owns (c : Thread nD τ) (ms0_8 t) fullShare (x8) ∗ owns (c : Thread nD τ) scM0_0 fullShare xs) ∗ R) : sProp 𝕄)
    ⊢ wp frame (wpE (defs₀ (F := F)) Variants.none c none) Set.univ (bodyAt0 t) K :=
  triple_framed (W := wp frame (wpE (defs₀ (F := F)) Variants.none c none) Set.univ (bodyAt0 t)) (body_owns m c t x7 x8 xs hx8 hxs) hK

/-- What the scratch and the rest of the invariant hold after a point. -/
theorem close_post (c : Dev nD) (t : Fin cfg0.N) (G : sProp 𝕄) (a : PUnit) :
    (iprop((owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (codesAt m c t) ∗ owns (c : Thread nD τ) (ms0_8 t) fullShare (amaxAt m c t.val t.isLt) ∗ owns (c : Thread nD τ) scM0_0 fullShare (scrAt m c t.val t.isLt)) ∗ ((dats m 0 c).owesAt () t.castSucc ∗ G)) : sProp 𝕄) ⊢
      iprop((owns (c : Thread nD τ) scM0_0 fullShare (scrAt m c t.val t.isLt) ∗ G) ∗ (dats m 0 c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (codesAt m c t) ∗ owns (c : Thread nD τ) (ms0_8 t) fullShare (amaxAt m c t.val t.isLt)) := by
  iintro ⟨⟨H0, H1, H2, H3, H4, H5, H6, H7, H8, HS⟩, Ho, Hg⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 3200000 in
/-- The body at any point: what it is called with gives what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_framed m c t ((dats m 0 c).before 7 t d7) ((dats m 0 c).before 8 t d8) xs (fun h => absurd hz h) (fun h => absurd hz h) _ _ (close_post m c t _))
    isplitl [H0 H1 H2 H3 H4 H5 H6 H7 H8 HS]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    isplitl [Ho]
    · iexact Ho
    iexact Hg
  · rw [PhiS_castSucc m c t, PhiS_pos m c _ _ hz]
    simp only [before0_8 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_framed m c t ((dats m 0 c).before 7 t d7) _ _ (fun _ => rfl) (fun _ => rfl) _ _ (close_post m c t _))
    isplitl [H0 H1 H2 H3 H4 H5 H6 H7 H8 HS]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    isplitl [Ho]
    · iexact Ho
    iexact Hg

/-! ## The launch -/

/-- The table's row is the body at its point. -/
theorem defs₀_row (t : Fin cfg0.N) : defs₀ (F := F) .tc cfg0.body (cfg0.bodyArgs t (cfg0.slots t)) = bodyAt0 t := by
  unfold defs₀
  rw [Defs.onTc_tc]

/-- The launch's obligation about the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant after any later point gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (by omega) from rfl, PhiS_pos m c _ _ ht, PhiA0_eq]
  iintro ⟨HS0, Hg⟩
  isplitl [HS0]
  · iexists _
    iexact HS0
  iexact Hg

/-- The invariant after the last point gives the scratch back. -/
theorem hout (c : Dev nD) : (dats m 0 c).Φ (Fin.last _) ⊢ Pipeline.ΦA spec0 c :=
  Phi_out m c _ (by rw [Fin.val_last]; have : cfg0.N = 2304 := N_0; omega)

set_option backward.isDefEq.respectTransparency.types false in
set_option maxHeartbeats 800000 in
/-- The launch: what the arrays hold at every final state, and every semaphore counter at zero there. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- What the arrays hold at every final state. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run ends with the arguments as they were and every semaphore counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.KArr.lean ====
/-
  What the kernel's arrays hold at the end of the run, as functions of what its points compute, and the blocks
  its points read as functions of the arguments.
-/
module

public import proofs.«01_k».proof.Proof.KFrame
public import Idealize.ShloMosaic.Lib.Pipeline.ValueKit.Geometry
public import Idealize.ShloMosaic.Lib.Claim

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## A point's coordinates -/

/-- The grid has 2304 points. -/
theorem N_eq : cfg0.N = 2304 := N_0

/-- The batch of a point. -/
theorem coord_0 (t : Fin cfg0.N) : (grid0.coords t 0).val = t.val / 1152 % 2 := Pipeline.Grid.coords_val t 0 (by decide) rfl
/-- The key head of a point. -/
theorem coord_1 (t : Fin cfg0.N) : (grid0.coords t 1).val = t.val / 144 % 8 := Pipeline.Grid.coords_val t 1 (by decide) rfl
/-- The group member of a point. -/
theorem coord_2 (t : Fin cfg0.N) : (grid0.coords t 2).val = t.val / 48 % 3 := Pipeline.Grid.coords_val t 2 (by decide) rfl
/-- The query tile of a point. -/
theorem coord_3 (t : Fin cfg0.N) : (grid0.coords t 3).val = t.val / 1 % 48 := Pipeline.Grid.coords_val t 3 (by decide) rfl

/-- The block of the queries at a point: its batch, its query rows, its head. -/
theorem index_4 (t : Fin cfg0.N) : win0_4.index t = ![t.val / 1152, t.val % 48, t.val / 48 % 24] :=
  (by decide +kernel : ∀ t : Fin grid0.N, win0_4.index t = ![t.val / 1152, t.val % 48, t.val / 48 % 24]) t
/-- The block of the keys: its batch, every row, its key head. -/
theorem index_5 (t : Fin cfg0.N) : win0_5.index t = ![t.val / 1152, 0, t.val / 144 % 8] :=
  (by decide +kernel : ∀ t : Fin grid0.N, win0_5.index t = ![t.val / 1152, 0, t.val / 144 % 8]) t
/-- The block of the values: the same. -/
theorem index_6 (t : Fin cfg0.N) : win0_6.index t = ![t.val / 1152, 0, t.val / 144 % 8] :=
  (by decide +kernel : ∀ t : Fin grid0.N, win0_6.index t = ![t.val / 1152, 0, t.val / 144 % 8]) t
/-- The block of the codes: as the queries'. -/
theorem index_7 (t : Fin cfg0.N) : win0_7.index t = ![t.val / 1152, t.val % 48, t.val / 48 % 24] :=
  (by decide +kernel : ∀ t : Fin grid0.N, win0_7.index t = ![t.val / 1152, t.val % 48, t.val / 48 % 24]) t

/-! ## The codes array -/

/-- The point that writes an element of the codes array. -/
def ptOf (j : S2x24576x3072.Idx) : ℕ := (j 0).val * 1152 + (j 2).val / 128 * 48 + (j 1).val / 512

/-- The point that writes an element of the codes is a point of the grid. -/
theorem ptOf_lt (j : S2x24576x3072.Idx) : ptOf j < cfg0.N := by
  have h0 : (j 0).val < 2 := (j 0).isLt
  have h1 : (j 1).val < 24576 := (j 1).isLt
  have h2 : (j 2).val < 3072 := (j 2).isLt
  rw [N_eq]; unfold ptOf; omega

/-- The codes array: each element is the one its point computes. -/
def codesArr (c : Dev nD) : Vec F S2x24576x3072 .fp8e4m3 := fun j =>
  codesAt m c ⟨ptOf j, ptOf_lt j⟩ (ix3 (n0 := 1) (n1 := 512) (n2 := 128) 0 ⟨(j 1).val % 512, Nat.mod_lt _ (by decide)⟩ ⟨(j 2).val % 128, Nat.mod_lt _ (by decide)⟩)

/-- What a point stores is its block of the codes array. -/
theorem codesArr_at (c : Dev nD) (t : Fin cfg0.N) (y : S1x512x128.Idx) (j : S2x24576x3072.Idx)
    (h0 : (j 0).val = t.val / 1152) (h1 : (j 1).val = t.val % 48 * 512 + (y 1).val) (h2 : (j 2).val = t.val / 48 % 24 * 128 + (y 2).val) :
    codesAt m c t y = codesArr m c j := by
  have hN : t.val < 2304 := lt_of_lt_of_eq t.isLt N_eq
  have y0 : (y 0).val < 1 := (y 0).isLt
  have y1 : (y 1).val < 512 := (y 1).isLt
  have y2 : (y 2).val < 128 := (y 2).isLt
  unfold codesArr
  have ht : t = ⟨ptOf j, ptOf_lt j⟩ := Fin.ext (by show t.val = ptOf j; unfold ptOf; rw [h0, h1, h2]; omega)
  rw [← ht]
  refine congrArg _ (funext fun a => Fin.ext ?_)
  match a with
  | ⟨0, _⟩ => show (y 0).val = 0; omega
  | ⟨1, _⟩ => show (y 1).val = (j 1).val % 512; omega
  | ⟨2, _⟩ => show (y 2).val = (j 2).val % 128; omega

/-- After the run the codes array holds, at each element, what its point computed. -/
theorem final_7 (c : Dev nD) : (dats m 0 c).arrAt 7 cfg0.N = codesArr m c := by
  refine (dats m 0 c).arrAt_eq_of_covers 7 _ (by decide +kernel) fun t hf y => ?_
  blk_simp
  rw [after0_7]
  refine codesArr_at m c t y _ ?_ ?_ ?_
  · blk_simp [index_7]
  · blk_simp [index_7]
  · blk_simp [index_7]

/-! ## The amax array -/

/-- The last point. -/
def tLast : Fin cfg0.N := ⟨2303, by rw [N_eq]; decide⟩

/-- After the run the amax array holds what the last point left. -/
theorem final_8 (c : Dev nD) : (dats m 0 c).arrAt 8 cfg0.N = amaxAt m c 2303 tLast.isLt := by
  refine (dats m 0 c).arrAt_eq_of_after_last 8 tLast (by decide +kernel) _ fun j => ?_
  blk_simp
  rw [after0_8]
  rfl

/-! ## The blocks read, from the arguments -/

/-- A block of queries, read at an element. -/
theorem iblk_4 (c : Dev nD) (t : Fin cfg0.N) (y : S1x512x128.Idx) (j : S2x24576x3072.Idx)
    (h0 : (j 0).val = t.val / 1152) (h1 : (j 1).val = t.val % 48 * 512 + (y 1).val) (h2 : (j 2).val = t.val / 48 % 24 * 128 + (y 2).val) :
    iblk m c 4 t y = m ((c : Thread nD τ).loc main_arg0) j := by
  blk_simp [iblk]
  rw [V_main_arg0]
  refine congrArg _ (funext fun a => Fin.ext ?_)
  have : (y 0).val < 1 := (y 0).isLt
  match a with
  | ⟨0, _⟩ => blk_simp [index_4]; exact h0.symm
  | ⟨1, _⟩ => blk_simp [index_4]; exact h1.symm
  | ⟨2, _⟩ => blk_simp [index_4]; exact h2.symm

/-- A block of keys, read at an element. -/
theorem iblk_5 (c : Dev nD) (t : Fin cfg0.N) (y : S1x24576x128.Idx) (j : S2x24576x1024.Idx)
    (h0 : (j 0).val = t.val / 1152) (h1 : (j 1).val = (y 1).val) (h2 : (j 2).val = t.val / 144 % 8 * 128 + (y 2).val) :
    iblk m c 5 t y = m ((c : Thread nD τ).loc main_arg1) j := by
  blk_simp [iblk]
  rw [V_main_arg1]
  refine congrArg _ (funext fun a => Fin.ext ?_)
  have : (y 0).val < 1 := (y 0).isLt
  match a with
  | ⟨0, _⟩ => blk_simp [index_5]; exact h0.symm
  | ⟨1, _⟩ => blk_simp [index_5]; exact h1.symm
  | ⟨2, _⟩ => blk_simp [index_5]; exact h2.symm

/-- A block of values, read at an element. -/
theorem iblk_6 (c : Dev nD) (t : Fin cfg0.N) (y : S1x24576x128.Idx) (j : S2x24576x1024.Idx)
    (h0 : (j 0).val = t.val / 1152) (h1 : (j 1).val = (y 1).val) (h2 : (j 2).val = t.val / 144 % 8 * 128 + (y 2).val) :
    iblk m c 6 t y = m ((c : Thread nD τ).loc main_arg2) j := by
  blk_simp [iblk]
  rw [V_main_arg2]
  refine congrArg _ (funext fun a => Fin.ext ?_)
  have : (y 0).val < 1 := (y 0).isLt
  match a with
  | ⟨0, _⟩ => blk_simp [index_6]; exact h0.symm
  | ⟨1, _⟩ => blk_simp [index_6]; exact h1.symm
  | ⟨2, _⟩ => blk_simp [index_6]; exact h2.symm

/-- Window 0 has one block. -/
theorem index_0 (t : Fin cfg0.N) : win0_0.index t = ![0] :=
  (by decide +kernel : ∀ t : Fin grid0.N, win0_0.index t = ![0]) t

/-- The block of window 0 is its whole table. -/
theorem iblk_0 (c : Dev nD) (t : Fin cfg0.N) : (iblk m c 0 t : Vec F S24 .f32) = m ((c : Thread nD τ).loc main_arg3) := by
  funext y
  blk_simp [iblk]
  rw [V_main_arg3]
  refine congrArg _ (funext fun a => Fin.ext ?_)
  match a with
  | ⟨0, _⟩ => blk_simp [index_0]

/-- Window 1 has one block. -/
theorem index_1 (t : Fin cfg0.N) : win0_1.index t = ![0] :=
  (by decide +kernel : ∀ t : Fin grid0.N, win0_1.index t = ![0]) t

/-- The block of window 1 is its whole table. -/
theorem iblk_1 (c : Dev nD) (t : Fin cfg0.N) : (iblk m c 1 t : Vec F S8 .f32) = m ((c : Thread nD τ).loc main_arg4) := by
  funext y
  blk_simp [iblk]
  rw [V_main_arg4]
  refine congrArg _ (funext fun a => Fin.ext ?_)
  match a with
  | ⟨0, _⟩ => blk_simp [index_1]

/-- Window 2 has one block. -/
theorem index_2 (t : Fin cfg0.N) : win0_2.index t = ![0] :=
  (by decide +kernel : ∀ t : Fin grid0.N, win0_2.index t = ![0]) t

/-- The block of window 2 is its whole table. -/
theorem iblk_2 (c : Dev nD) (t : Fin cfg0.N) : (iblk m c 2 t : Vec F S8 .f32) = m ((c : Thread nD τ).loc main_arg5) := by
  funext y
  blk_simp [iblk]
  rw [V_main_arg5]
  refine congrArg _ (funext fun a => Fin.ext ?_)
  match a with
  | ⟨0, _⟩ => blk_simp [index_2]

/-- Window 3 has one block. -/
theorem index_3 (t : Fin cfg0.N) : win0_3.index t = ![0] :=
  (by decide +kernel : ∀ t : Fin grid0.N, win0_3.index t = ![0]) t

/-- The block of window 3 is its whole table. -/
theorem iblk_3 (c : Dev nD) (t : Fin cfg0.N) : (iblk m c 3 t : Vec F S24 .f32) = m ((c : Thread nD τ).loc main_arg6) := by
  funext y
  blk_simp [iblk]
  rw [V_main_arg6]
  refine congrArg _ (funext fun a => Fin.ext ?_)
  match a with
  | ⟨0, _⟩ => blk_simp [index_3]

end Cert.KernelIdeal.Body
-- ==== Proof.KRes.lean ====
/-
  The run of the kernel with its results named: the codes array and the amax result.
-/
module

public import proofs.«01_k».proof.Proof.KArr
public import Idealize.ShloMosaic.Lib.Pipeline.ValueKit.Geometry
public import Idealize.ShloMosaic.Lib.Claim

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The run -/

/-- The amax result: the first element of each head's row of the amax array after the last point. -/
def amaxRes (c : Dev nD) : Vec F S24 .f32 := fun i =>
  amaxAt m c 2303 tLast.isLt (ix3 (n0 := 24) (n1 := 8) (n2 := 128) (i 0) 0 0)

/-- Reading the amax array as the host lines after the kernel do. -/
theorem tail_amax (X : Vec F S24x8x128 .f32) (i : S24.Idx) :
    shapeCast S24 (extractStridedSlice S24x1x1 ![0, 0, 0] X slices_S24x8x128_S24x1x1_0_0_0) shapeCasts_S24x1x1_S24 i
      = X (ix3 (n0 := 24) (n1 := 8) (n2 := 128) (i 0) 0 0) := by
  refine (shapeCast_apply _ _ _ (ix3 (n0 := 24) (n1 := 1) (n2 := 1) (i 0) 0 0) ?_).trans ?_
  · rw [Shape.rowMajor_val_three, Shape.rowMajor_val_one]; show (((i 0).val * 1 + 0) * 1 + 0) = (i 0).val; omega
  · refine extractStridedSlice_apply _ _ _ _ _ fun a => ?_
    match a with
    | ⟨0, _⟩ => show (i 0).val = 0 + (i 0).val; omega
    | ⟨1, _⟩ => rfl
    | ⟨2, _⟩ => rfl

/-- What every run ends with: the codes array, the amax result, and the arguments as they were. -/
theorem run_res : θ_run defs (onTc (τ := τ) (main (F := F))) ⟨m, fun _ => 0, ρ⟩ (fun r => ∀ c : Dev nD,
      r.2.mem ((c.tc : Thread nD τ).loc main_v0_0) = codesArr m c
      ∧ r.2.mem ((c.tc : Thread nD τ).loc main_v2) = amaxRes m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) := by
  refine (θ_run defs _ _).mono (fun r h c => ?_) (θ_run_and (run_main m ρ) (frame_ideal m ρ))
  refine ⟨((h.1 c).1 7).trans (final_7 m c), ?_, h.2.1 c⟩
  refine ((h.1 c).2 main_v2 (by decide)).trans ?_
  unfold Pipeline.afterTail₀
  have hR : Pipeline.withArrays spec0 c (V0 m c) (fun w => (dats m 0 c).arrAt w cfg0.N) (Proc.devRef .tc main_v0_1) = amaxAt m c 2303 tLast.isLt :=
    (Pipeline.withArrays_arr spec0 launch0.win.arr_inj c (V0 m c) _ 8).trans (final_8 m c)
  generalize hG : Pipeline.withArrays (cfgs 0).spec c (V0 m c) (fun w => (dats m 0 c).arrAt w (cfgs 0).N) = W
  have hW : W (Proc.devRef .tc main_v0_1) = amaxAt m c 2303 tLast.isLt := hG ▸ hR
  show StableHlo.after hostOps1 W (Proc.devRef .tc main_v2) = _
  simp only [StableHlo.after_cons, StableHlo.after_nil]
  after_results_simp
  rw [hW]
  funext i
  exact tail_amax (amaxAt m c 2303 tLast.isLt) i

end Cert.KernelIdeal.Body
-- ==== Proof.Online.lean ====
/-
  The online softmax over the extended reals, with no condition on the scores: the running maximum, the
  running sum of weights and the running weighted sum of a growing range of keys, how a block of keys updates
  them, and that the finished quotient is the normalised softmax.
-/
module

public import Idealize.ShloMosaic.PureOps.Ideal.Laws

@[expose] public section

noncomputable section

namespace Cert.Online

open Idealize.ShloMosaic

/-- The maximum of the first `n` scores. -/
def mx (s : ℕ → EReal) (n : ℕ) : EReal := (Finset.range n).sup s

/-- The sum over the first `n` keys of the weights `2 ^ (score - maximum)`. -/
def lw (s : ℕ → EReal) (n : ℕ) : EReal := ∑ i ∈ Finset.range n, Ideal.exp2 (s i - mx s n)

/-- The sum over the first `n` keys of value times weight. -/
def av (s v : ℕ → EReal) (n : ℕ) : EReal := ∑ i ∈ Finset.range n, v i * Ideal.exp2 (s i - mx s n)

/-- Powers of two are not negative. -/
theorem exp2_nonneg (x : EReal) : 0 ≤ Ideal.exp2 x := by
  induction x with
  | bot => exact le_refl _
  | top => exact le_top
  | coe r => rw [Ideal.exp2_coe]; exact EReal.coe_nonneg.2 (Real.rpow_nonneg (by norm_num) r)

/-- No weight is infinite: a score is never above the maximum. -/
theorem exp2_sub_ne_top {a b : EReal} (h : a ≤ b) : Ideal.exp2 (a - b) ≠ ⊤ := by
  induction b with
  | bot => rw [le_bot_iff.1 h]; exact EReal.zero_ne_top
  | top => rw [EReal.sub_top]; exact EReal.zero_ne_top
  | coe y =>
    induction a with
    | bot => rw [EReal.bot_sub]; exact EReal.zero_ne_top
    | top => exact absurd h (by simp)
    | coe x => rw [← EReal.coe_sub, Ideal.exp2_coe]; exact EReal.coe_ne_top _

/-- Rescaling a weight from an older maximum to a newer one. -/
theorem exp2_rescale {a b c : EReal} (h : a ≤ b) (h' : b ≤ c) :
    Ideal.exp2 (a - b) * Ideal.exp2 (b - c) = Ideal.exp2 (a - c) := by
  induction c with
  | top => rw [EReal.sub_top, EReal.sub_top]; exact mul_zero _
  | bot =>
    obtain rfl := le_bot_iff.1 h'
    obtain rfl := le_bot_iff.1 h
    exact mul_zero _
  | coe z =>
    induction b with
    | bot =>
      obtain rfl := le_bot_iff.1 h
      rw [EReal.bot_sub, EReal.bot_sub]; exact mul_zero _
    | top => exact absurd h' (by simp)
    | coe y =>
      induction a with
      | bot => rw [EReal.bot_sub, EReal.bot_sub]; exact zero_mul _
      | top => exact absurd h (by simp)
      | coe x =>
        rw [← EReal.coe_sub, ← EReal.coe_sub, ← EReal.coe_sub, Ideal.exp2_coe, Ideal.exp2_coe, Ideal.exp2_coe, ← EReal.coe_mul]
        congr 1
        show (2 : ℝ) ^ (x - y) * (2 : ℝ) ^ (y - z) = (2 : ℝ) ^ (x - z)
        rw [← Real.rpow_add (by norm_num)]; congr 1; ring

/-- Multiplying a finite sum by a nonnegative finite factor. -/
theorem sum_mul_of_nonneg {ι : Type*} (S : Finset ι) (f : ι → EReal) {c : EReal} (h0 : 0 ≤ c) (h1 : c ≠ ⊤) :
    (∑ i ∈ S, f i) * c = ∑ i ∈ S, f i * c := by
  classical
  induction S using Finset.induction_on with
  | empty => simp
  | insert a S ha ih =>
    rw [Finset.sum_insert ha, Finset.sum_insert ha, ← ih]
    exact EReal.right_distrib_of_nonneg_of_ne_top h0 h1 _ _

/-- A score is at most the maximum over it. -/
theorem le_mx (s : ℕ → EReal) {n i : ℕ} (h : i < n) : s i ≤ mx s n := Finset.le_sup (Finset.mem_range.2 h)

/-- The maximum after one more block of keys. -/
theorem mx_add (s : ℕ → EReal) (n w : ℕ) :
    mx s (n + w) = max (mx s n) ((Finset.univ : Finset (Fin w)).sup fun k => s (n + k.val)) := by
  apply le_antisymm
  · refine Finset.sup_le fun i hi => ?_
    have hi := Finset.mem_range.1 hi
    by_cases h : i < n
    · exact le_max_of_le_left (le_mx s h)
    · refine le_max_of_le_right ?_
      have e : n + (⟨i - n, by omega⟩ : Fin w).val = i := by show n + (i - n) = i; omega
      have := Finset.le_sup (f := fun k : Fin w => s (n + k.val)) (Finset.mem_univ ⟨i - n, by omega⟩)
      simpa only [e] using this
  · refine max_le (Finset.sup_le fun i hi => le_mx s (by have := Finset.mem_range.1 hi; omega)) (Finset.sup_le fun k _ => le_mx s (by omega))

/-- The maximum grows with the range. -/
theorem mx_mono (s : ℕ → EReal) (n w : ℕ) : mx s n ≤ mx s (n + w) := by rw [mx_add]; exact le_max_left _ _

/-- The sum of weights after one more block of keys. -/
theorem lw_add (s : ℕ → EReal) (n w : ℕ) :
    lw s (n + w) = lw s n * Ideal.exp2 (mx s n - mx s (n + w)) + ∑ k : Fin w, Ideal.exp2 (s (n + k.val) - mx s (n + w)) := by
  unfold lw
  rw [Finset.sum_range_add, Finset.sum_range fun k => Ideal.exp2 (s (n + k) - mx s (n + w)),
    sum_mul_of_nonneg _ _ (exp2_nonneg _) (exp2_sub_ne_top (mx_mono s n w))]
  congr 1
  exact Finset.sum_congr rfl fun i hi => (exp2_rescale (le_mx s (Finset.mem_range.1 hi)) (mx_mono s n w)).symm

/-- The weighted sum after one more block of keys. -/
theorem av_add (s v : ℕ → EReal) (n w : ℕ) :
    av s v (n + w) = av s v n * Ideal.exp2 (mx s n - mx s (n + w))
      + ∑ k : Fin w, v (n + k.val) * Ideal.exp2 (s (n + k.val) - mx s (n + w)) := by
  unfold av
  rw [Finset.sum_range_add, Finset.sum_range fun k => v (n + k) * Ideal.exp2 (s (n + k) - mx s (n + w)),
    sum_mul_of_nonneg _ _ (exp2_nonneg _) (exp2_sub_ne_top (mx_mono s n w))]
  congr 1
  refine Finset.sum_congr rfl fun i hi => ?_
  rw [mul_assoc, exp2_rescale (le_mx s (Finset.mem_range.1 hi)) (mx_mono s n w)]

/-- Keys with score `⊥` (the masked ones) change none of the three. -/
theorem mx_masked (s : ℕ → EReal) {n N : ℕ} (hn : n ≤ N) (h : ∀ i, n ≤ i → s i = ⊥) : mx s N = mx s n := by
  obtain ⟨w, rfl⟩ := Nat.exists_eq_add_of_le hn
  rw [mx_add, max_eq_left]
  refine Finset.sup_le fun k _ => ?_
  rw [h _ (by omega)]; exact bot_le

/-- Masked keys leave the sum as it was. -/
theorem lw_masked (s : ℕ → EReal) {n N : ℕ} (hn : n ≤ N) (h : ∀ i, n ≤ i → s i = ⊥) : lw s N = lw s n := by
  unfold lw
  rw [mx_masked s hn h]
  refine (Finset.sum_subset (Finset.range_mono hn) fun i _ hi => ?_).symm
  rw [h i (by simpa using hi), EReal.bot_sub]; rfl

/-- The first `n` keys' scores decide the three. -/
theorem mx_congr {s s' : ℕ → EReal} {n : ℕ} (h : ∀ i, i < n → s i = s' i) : mx s n = mx s' n :=
  Finset.sup_congr rfl fun i hi => h i (Finset.mem_range.1 hi)

/-- The sum depends only on the scores in range. -/
theorem lw_congr {s s' : ℕ → EReal} {n : ℕ} (h : ∀ i, i < n → s i = s' i) : lw s n = lw s' n := by
  unfold lw
  rw [mx_congr h]
  exact Finset.sum_congr rfl fun i hi => by rw [h i (Finset.mem_range.1 hi)]

/-- The weighted values depend only on what is in range. -/
theorem av_congr {s s' v v' : ℕ → EReal} {n : ℕ} (h : ∀ i, i < n → s i = s' i) (hv : ∀ i, i < n → v i = v' i) : av s v n = av s' v' n := by
  unfold av
  rw [mx_congr h]
  exact Finset.sum_congr rfl fun i hi => by rw [h i (Finset.mem_range.1 hi), hv i (Finset.mem_range.1 hi)]

/-- Dividing the finished weighted sum by the finished sum of weights is weighting each value by its
    normalised weight; the masked keys from `n` to `N` add nothing. -/
theorem finish (s v : ℕ → EReal) {n N : ℕ} (hn : n ≤ N) (h : ∀ i, n ≤ i → s i = ⊥) :
    av s v n * Ideal.div 1 (lw s n) = ∑ i ∈ Finset.range N, (Ideal.exp2 (s i - mx s N) * Ideal.div 1 (lw s N)) * v i := by
  rw [mx_masked s hn h, lw_masked s hn h]
  have hz : ∀ i, n ≤ i → Ideal.exp2 (s i - mx s n) = 0 := fun i hi => by rw [h i hi, EReal.bot_sub]; rfl
  rw [← Finset.sum_subset (Finset.range_mono hn) (fun i _ hi => by rw [hz i (by simpa using hi), zero_mul, zero_mul])]
  have hl : 0 ≤ lw s n := Finset.sum_nonneg fun i _ => exp2_nonneg _
  by_cases h0 : lw s n = 0
  · have hw : ∀ i ∈ Finset.range n, Ideal.exp2 (s i - mx s n) = 0 :=
      (Finset.sum_eq_zero_iff_of_nonneg fun i _ => exp2_nonneg _).1 h0
    have : av s v n = 0 := Finset.sum_eq_zero fun i hi => by rw [hw i hi, mul_zero]
    rw [this, zero_mul]
    exact (Finset.sum_eq_zero fun i hi => by rw [hw i hi, zero_mul, zero_mul]).symm
  · have e : Ideal.div 1 (lw s n) = (lw s n)⁻¹ := by unfold Ideal.div; rw [if_neg h0, one_mul]
    rw [e]
    unfold av
    rw [sum_mul_of_nonneg _ _ (EReal.inv_nonneg_of_nonneg hl) ?_]
    · exact Finset.sum_congr rfl fun i _ => by rw [mul_comm (v i), mul_right_comm]
    · generalize lw s n = x
      induction x with
      | bot => simp
      | top => simp
      | coe r => rw [← EReal.coe_inv]; exact EReal.coe_ne_top _

/-! ## From base two to base `e` -/

/-- `log₂ e`, as the reciprocal of `log 2`. -/
def L2e : EReal := (((Real.log 2)⁻¹ : ℝ) : EReal)

/-- 1 / log 2 is positive. -/
theorem log2_pos : 0 < (Real.log 2)⁻¹ := inv_pos.2 (Real.log_pos (by norm_num))

/-- `2 ^ (x log₂ e) = e ^ x`. -/
theorem exp2_mul_L2e (x : EReal) : Ideal.exp2 (x * L2e) = Ideal.exp x := by
  unfold L2e
  induction x with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    have := (Real.log_pos (show (1 : ℝ) < 2 by norm_num)).ne'
    field_simp

/-- Likewise as an extended real. -/
theorem L2e_nonneg : 0 ≤ L2e := EReal.coe_nonneg.2 log2_pos.le

/-- The scaled maximum is the maximum of the scaled scores. -/
theorem mx_mul_L2e (s : ℕ → EReal) (n : ℕ) : mx (fun i => s i * L2e) n = mx s n * L2e := by
  unfold mx
  refine (Finset.comp_sup_eq_sup_comp_of_is_total (fun x => x * L2e) (fun a b h => mul_le_mul_of_nonneg_right h L2e_nonneg) ?_).symm
  exact EReal.bot_mul_coe_of_pos log2_pos

/-- The weight of a scaled score is the base-`e` weight. -/
theorem exp2_scaled (s : ℕ → EReal) (n i : ℕ) :
    Ideal.exp2 (s i * L2e - mx (fun i => s i * L2e) n) = Ideal.exp (s i - mx s n) := by
  rw [mx_mul_L2e, ← exp2_mul_L2e, sub_eq_add_neg, sub_eq_add_neg,
    EReal.right_distrib_of_nonneg_of_ne_top L2e_nonneg (EReal.coe_ne_top _), EReal.neg_mul]

/-- The maximum and the attention with the keys counted by `Fin`. -/
theorem mx_fin (s : ℕ → EReal) (n : ℕ) : mx s n = (Finset.univ : Finset (Fin n)).sup fun k => s k.val := by
  have := mx_add s 0 n
  simp only [zero_add] at this
  rw [this]
  exact max_eq_right bot_le

/-- Softmax attention over all 24576 keys: each value times its key's normalised base-`e` weight. -/
def attn (s v : ℕ → EReal) : EReal :=
  ∑ i ∈ Finset.range 24576, (Ideal.exp (s i - mx s 24576) * Ideal.div 1 (∑ k ∈ Finset.range 24576, Ideal.exp (s k - mx s 24576))) * v i

/-- The kernel's quotient over base-two weights is the reference's sum of normalised base-`e` weights times values. -/
theorem finish_exp (s v : ℕ → EReal) {n : ℕ} (hn : n ≤ 24576) (h : ∀ i, n ≤ i → s i = ⊥) :
    av (fun i => s i * L2e) v n * Ideal.div 1 (lw (fun i => s i * L2e) n) = attn s v := by
  rw [finish (fun i => s i * L2e) v hn (fun i hi => by show s i * L2e = ⊥; rw [h i hi]; exact EReal.bot_mul_coe_of_pos log2_pos)]
  unfold lw attn
  simp only [exp2_scaled]

/-- Softmax attention with the keys counted by `Fin`. -/
theorem attn_fin (s v : ℕ → EReal) :
    attn s v = ∑ i : Fin 24576, (Ideal.exp (s i.val - mx s 24576) * Ideal.div 1 (∑ k : Fin 24576, Ideal.exp (s k.val - mx s 24576))) * v i.val := by
  unfold attn
  rw [Finset.sum_range, Finset.sum_range]

end Cert.Online
-- ==== Proof.KIdx.lean ====
/-
  The kernel's arithmetic at an index, over the extended reals: the running state after `j` key blocks, the
  finished output element as softmax attention, the code and the amax update.
-/
module

public import proofs.«01_k».proof.Proof.KVals
public import Idealize.ShloMosaic.Lib.Pointwise
public import Idealize.ShloMosaic.Lib.ValueIdx
public import proofs.«01_k».proof.Proof.Online

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One block of keys, over any matrix of scores (rows keys, columns queries) -/

section Step
variable {F : FTy → Type} [FloatOps F]

/-- The running maximum after a block with scores `S`. -/
def stepM (S : FVec F S512x512 .f32) (a : FVec F S1x512 .f32) : FVec F S1x512 .f32 :=
  maximumf a (shapeCast S1x512 (multiReduction .maximumf [0] S512 S 0xFF800000#32 reduces_S512x512_S512 (.inl rfl) rfl) shapeCasts_S512_S1x512)

/-- The block's weights. -/
def stepP (S : FVec F S512x512 .f32) (a : FVec F S1x512 .f32) : FVec F S512x512 .f32 :=
  exp2 (subf S (broadcastTo S512x512 (stepM S a) broadcasts_S1x512_S512x512))

/-- The running sum after the block. -/
def stepL (S : FVec F S512x512 .f32) (a l : FVec F S1x512 .f32) : FVec F S1x512 .f32 :=
  addf (mulf l (exp2 (subf a (stepM S a))))
    (shapeCast S1x512 (multiReduction .add [0] S512 (stepP S a) 0x00000000#32 reduces_S512x512_S512 (.inl rfl) rfl) shapeCasts_S512_S1x512)

/-- The running weighted sum after the block with values `vv`. -/
def stepA (S : FVec F S512x512 .f32) (a : FVec F S1x512 .f32) (acc : FVec F S128x512 .f32) (vv : Vec F S128x512 .bf16) : FVec F S128x512 .f32 :=
  addf (mulf acc (broadcastTo S128x512 (exp2 (subf a (stepM S a))) broadcasts_S1x512_S128x512))
    (matmul dot_S128x512_S512x512_S128x512_1_0_0_1_n_n none vv (truncf .bf16 (stepP S a) bitsLt_bf16_f32) (constant S128x512 .f32 0x00000000#32))

/-- The mask of the diagonal block: key at most query. -/
def maskS (arg3 : BitVec 32) (S : FVec F S512x512 .f32) : FVec F S512x512 .f32 :=
  select (cmpi .sle (addi (broadcast S512x512 (Scalar.muli arg3 512#32)) (iota .tc S512x512 32 [0] iota_S512x512_d0_w32))
      (addi (broadcast S512x512 (Scalar.muli arg3 512#32)) (iota .tc S512x512 32 [1] iota_S512x512_d1_w32))) S
    (broadcast S512x512 (Scalar.ofBits .f32 0xFF800000#32))

/-- The finished block: the diagonal step, then the quotient and the value scale. -/
def finO (S : FVec F S512x512 .f32) (a l : FVec F S1x512 .f32) (acc : FVec F S128x512 .f32) (vv : Vec F S128x512 .bf16) (v78 : Elt F .f32) : FVec F S128x512 .f32 :=
  mulf (mulf (stepA S a acc vv) (broadcastTo S128x512 (divf (broadcast S1x512 (Scalar.ofBits .f32 0x3F800000#32)) (stepL S a l)) broadcasts_S1x512_S128x512))
    (broadcast S128x512 v78)

variable [Named F]

/-- One step of the running maximum. -/
theorem pay11_eq (v17 v19 : Elt F .f32) (v23 v113 : Vec F S1x512x128 .fp8e4m3) (a : FVec F S1x512 .f32) :
    k0_pay11 v17 v19 v23 a v113 = stepM (k0_pay10 v17 v19 v23 v113) a := rfl

/-- One step of the running sum. -/
theorem pay14_eq (v17 v19 : Elt F .f32) (v23 v113 : Vec F S1x512x128 .fp8e4m3) (a l : FVec F S1x512 .f32) :
    k0_pay14 v17 v19 v23 a l v113 = stepL (k0_pay10 v17 v19 v23 v113) a l := rfl

/-- One step of the weighted values. -/
theorem pay15_eq (v17 v19 : Elt F .f32) (v23 v113 : Vec F S1x512x128 .fp8e4m3) (a : FVec F S1x512 .f32) (acc : FVec F S128x512 .f32) (vv : Vec F S128x512 .bf16) :
    k0_pay15 v17 v19 v23 a acc v113 vv = stepA (k0_pay10 v17 v19 v23 v113) a acc vv := rfl

/-- The masked step and the normalisation. -/
theorem pay22_eq (i : BitVec 32) (v17 v19 : Elt F .f32) (v23 v113 : Vec F S1x512x128 .fp8e4m3) (a l : FVec F S1x512 .f32) (acc : FVec F S128x512 .f32)
    (vv : Vec F S128x512 .bf16) (v78 : Elt F .f32) :
    k0_pay22 i (k0_pay5 v17 v19) (k0_pay6 v23) a l acc v113 vv v78 = finO (maskS i (k0_pay10 v17 v19 v23 v113)) a l acc vv v78 := rfl

end Step

/-! ## The steps at an index, over the extended reals -/

/-- The literal of minus infinity. -/
theorem ofBits_negInf : Ideal.ofBits .f32 0xFF800000#32 = ⊥ := by simp [Ideal.ofBits, Ideal.ieee]

/-- The literal of one. -/
theorem ofBits_one : Ideal.ofBits .f32 0x3F800000#32 = 1 := by simp [Ideal.ofBits, Ideal.ieee]; rw [← EReal.coe_mul]; norm_num

/-- A score: the dot product of the key's row with the query's, times the scale. -/
theorem pay10_at (v17 v19 : Elt Ideal .f32) (v23 v113 : Vec Ideal S1x512x128 .fp8e4m3) (k q : Fin 512) :
    k0_pay10 (F := Ideal) v17 v19 v23 v113 (ix2 k q)
      = (∑ d : Fin 128, (v113 (ix3 (n0 := 1) (n1 := 512) (n2 := 128) 0 k d) : EReal) * v23 (ix3 (n0 := 1) (n1 := 512) (n2 := 128) 0 q d)) * k0_pay5 (F := Ideal) v17 v19 := by
  unfold k0_pay10 k0_pay6
  simp only [pointwise]
  simp only [zero_add]

/-- The step of the maximum at an element. -/
theorem stepM_at (S : FVec Ideal S512x512 .f32) (a : FVec Ideal S1x512 .f32) (z : Fin 1) (q : Fin 512) :
    stepM S a (ix2 z q) = max (a (ix2 z q)) ((Finset.univ : Finset (Fin 512)).sup fun k => (S (ix2 k q) : EReal)) := by
  unfold stepM
  simp only [pointwise]
  rw [ofBits_negInf]; rfl

/-- The weights at an element. -/
theorem stepP_at (S : FVec Ideal S512x512 .f32) (a : FVec Ideal S1x512 .f32) (k q : Fin 512) :
    stepP S a (ix2 k q) = Ideal.exp2 ((S (ix2 k q) : EReal) - stepM S a (ix2 (n0 := 1) (n1 := 512) 0 q)) := by
  unfold stepP
  simp only [pointwise]
  rfl

/-- The step of the sum at an element. -/
theorem stepL_at (S : FVec Ideal S512x512 .f32) (a l : FVec Ideal S1x512 .f32) (z : Fin 1) (q : Fin 512) :
    stepL S a l (ix2 z q) = (l (ix2 z q) : EReal) * Ideal.exp2 ((a (ix2 z q) : EReal) - stepM S a (ix2 z q)) + ∑ k : Fin 512, (stepP S a (ix2 k q) : EReal) := by
  unfold stepL
  simp only [pointwise]
  rfl

/-- The step of the weighted values at an element. -/
theorem stepA_at (S : FVec Ideal S512x512 .f32) (a : FVec Ideal S1x512 .f32) (acc : FVec Ideal S128x512 .f32)
    (vv : Vec Ideal S128x512 .bf16) (d : Fin 128) (q : Fin 512) :
    stepA S a acc vv (ix2 d q)
      = (acc (ix2 d q) : EReal) * Ideal.exp2 ((a (ix2 (n0 := 1) (n1 := 512) 0 q) : EReal) - stepM S a (ix2 (n0 := 1) (n1 := 512) 0 q))
        + ∑ k : Fin 512, (vv (ix2 d k) : EReal) * stepP S a (ix2 k q) := by
  unfold stepA
  simp only [pointwise]
  simp only [zero_add]
  rfl

/-- The finished output at an element. -/
theorem finO_at (S : FVec Ideal S512x512 .f32) (a l : FVec Ideal S1x512 .f32) (acc : FVec Ideal S128x512 .f32) (vv : Vec Ideal S128x512 .bf16) (v78 : Elt Ideal .f32)
    (d : Fin 128) (q : Fin 512) :
    finO S a l acc vv v78 (ix2 d q) = (stepA S a acc vv (ix2 d q) : EReal) * Ideal.div 1 (stepL S a l (ix2 (n0 := 1) (n1 := 512) 0 q)) * v78 := by
  unfold finO
  simp only [pointwise]
  rfl

/-- The masked scores at an element. -/
theorem maskS_at (n : ℕ) (hn : n < 48) (S : FVec Ideal S512x512 .f32) (k q : Fin 512) :
    maskS (BitVec.ofNat 32 n) S (ix2 k q) = if k.val ≤ q.val then S (ix2 k q) else (⊥ : EReal) := by
  unfold maskS
  simp only [pointwise]
  rw [ofBits_negInf]
  have hk : k.val < 512 := k.isLt
  have hq : q.val < 512 := q.isLt
  show Scalar.select (BitVec.ofBool (BitVec.sle (BitVec.ofNat 32 n * 512#32 + BitVec.ofNat 32 (0 * 512 + k.val)) (BitVec.ofNat 32 n * 512#32 + BitVec.ofNat 32 (0 * 512 + q.val)))) (S (ix2 k q)) (⊥ : EReal) = _
  have e : ∀ x : ℕ, x < 512 → (BitVec.ofNat 32 n * 512#32 + BitVec.ofNat 32 (0 * 512 + x)).toInt = ((n * 512 + x : ℕ) : ℤ) := by
    intro x hx
    have : (BitVec.ofNat 32 n * 512#32 + BitVec.ofNat 32 (0 * 512 + x)).toNat = n * 512 + x := by
      simp only [BitVec.toNat_add, BitVec.toNat_mul, BitVec.toNat_ofNat]; omega
    rw [BitVec.toInt_eq_toNat_of_lt (by omega), this]
  have hs : (BitVec.sle (BitVec.ofNat 32 n * 512#32 + BitVec.ofNat 32 (0 * 512 + k.val)) (BitVec.ofNat 32 n * 512#32 + BitVec.ofNat 32 (0 * 512 + q.val))) = decide (k.val ≤ q.val) := by
    rw [BitVec.sle_eq_decide, e _ hk, e _ hq]
    exact decide_eq_decide.2 (by omega)
  rw [hs]
  by_cases h : k.val ≤ q.val
  · rw [if_pos h, decide_eq_true h]; rfl
  · rw [if_neg h, decide_eq_false h]; rfl

/-- The transposed values: row `d`, column `i` is the value array's row `i`, column `d`. -/
theorem vtOf_at (x6 : Vec Ideal S1x24576x128 .fp8e4m3) (d : Fin 128) (i : Fin 24576) :
    vtOf (F := Ideal) x6 (ix2 d i) = x6 (ix3 (n0 := 1) (n1 := 24576) (n2 := 128) 0 i d) := by
  unfold vtOf k0_pay4
  simp only [pointwise]
  show x6 _ = x6 _
  congr 1
  funext a
  match a with
  | ⟨0, _⟩ => rfl
  | ⟨1, _⟩ =>
    have hi := i.isLt
    exact Fin.ext (show (256 * (i.val / 256) + i.val % 256) % 24576 = i.val by omega)
  | ⟨2, _⟩ => rfl

/-- The code of an output element. -/
theorem pay2_at (o : FVec Ideal S128x512 .f32) (s : Elt Ideal .f32) (z : Fin 1) (q : Fin 512) (d : Fin 128) :
    k0_pay2 (F := Ideal) o s (ix3 z q d)
      = min (Ideal.ofBits .f32 0x43E00000#32) (max (Ideal.ofBits .f32 0xC3E00000#32) ((o (ix2 d q) : EReal) * Ideal.div 1 s)) := by
  unfold k0_pay2
  simp only [pointwise]

/-- The head's row raised to the block's greatest magnitude. -/
theorem pay1_at (o : FVec Ideal S128x512 .f32) (x : Vec Ideal S1x8x128 .f32) (z : Fin 1) (a : Fin 8) (b : Fin 128) :
    k0_pay1 (F := Ideal) o x (ix3 z a b)
      = max (x (ix3 (n0 := 1) 0 a b) : EReal) ((Finset.univ : Finset (Fin 128 × Fin 512)).sup fun p => max (o (ix2 p.1 p.2) : EReal) (-(o (ix2 p.1 p.2) : EReal))) := by
  unfold k0_pay1
  simp only [pointwise]
  rw [ofBits_negInf]; rfl

/-! ## The running state over the keys so far -/

open Cert.Online

/-- The scale of the scores, before the change of base. -/
def scl (v17 v19 : Elt Ideal .f32) : EReal := ((v17 : EReal) * v19) * Ideal.ofBits .f32 0x3DB504F3#32

/-- The score scale with its factor 1 / log 2. -/
theorem pay5_at (v17 v19 : Elt Ideal .f32) : k0_pay5 (F := Ideal) v17 v19 = scl v17 v19 * L2e := by
  unfold k0_pay5
  simp only [pointwise]
  rw [IdealRules.named_const.ideal_named_scalar _ _ _ _ rfl]
  rfl

/-- Key `i`'s score against query row `q` of the block. -/
def scr (v17 v19 : Elt Ideal .f32) (x4 : Vec Ideal S1x512x128 .fp8e4m3) (x5 : Vec Ideal S1x24576x128 .fp8e4m3) (q : Fin 512) (i : ℕ) : EReal :=
  (∑ d : Fin 128, (x5 (ix3 (n0 := 1) (n1 := 24576) (n2 := 128) 0 ⟨i % 24576, Nat.mod_lt _ (by decide)⟩ d) : EReal)
    * x4 (ix3 (n0 := 1) (n1 := 512) (n2 := 128) 0 q d)) * scl v17 v19

/-- Entry `d` of value row `i`. -/
def vrow (xs : Vec Ideal S128x24576 .bf16) (d : Fin 128) (i : ℕ) : EReal :=
  xs (ix2 (n0 := 128) (n1 := 24576) d ⟨i % 24576, Nat.mod_lt _ (by decide)⟩)

section State
variable (v17 v19 : Elt Ideal .f32) (x4 : Vec Ideal S1x512x128 .fp8e4m3) (x5 : Vec Ideal S1x24576x128 .fp8e4m3) (xs : Vec Ideal S128x24576 .bf16)

/-- A key block's scores at an element. -/
theorem pay10_kBlk (j : ℕ) (k q : Fin 512) :
    k0_pay10 (F := Ideal) v17 v19 x4 (kBlk x5 j) (ix2 k q) = scr v17 v19 x4 x5 q (512 * j + k.val) * L2e := by
  rw [pay10_at, pay5_at]
  unfold scr
  rw [mul_assoc]
  congr 1

/-- A value block at an element. -/
theorem vBlk_at (j : ℕ) (d : Fin 128) (k : Fin 512) : vBlk xs j (ix2 d k) = vrow xs d (512 * j + k.val) := by
  exact congrArg xs (ix2_eq_valueIdx _ _).symm

/-- After `j` blocks the state is the maximum, the sum of weights and the weighted sum of the first `512 j` keys. -/
theorem stT_at (j : ℕ) :
    (∀ z q, (stT (F := Ideal) v17 v19 x4 x5 xs j).1 (ix2 z q) = mx (fun i => scr v17 v19 x4 x5 q i * L2e) (512 * j))
    ∧ (∀ z q, (stT (F := Ideal) v17 v19 x4 x5 xs j).2.1 (ix2 z q) = lw (fun i => scr v17 v19 x4 x5 q i * L2e) (512 * j))
    ∧ (∀ d q, (stT (F := Ideal) v17 v19 x4 x5 xs j).2.2 (ix2 d q) = av (fun i => scr v17 v19 x4 x5 q i * L2e) (vrow xs d) (512 * j)) := by
  induction j with
  | zero =>
    refine ⟨fun z q => ?_, fun z q => ?_, fun d q => ?_⟩
    · exact ofBits_negInf
    · exact Ideal.ofBits_zero_f32
    · exact Ideal.ofBits_zero_f32
  | succ j ih =>
    obtain ⟨hm, hl, ha⟩ := ih
    have hM : ∀ z q, stepM (k0_pay10 (F := Ideal) v17 v19 x4 (kBlk x5 j)) (stT v17 v19 x4 x5 xs j).1 (ix2 z q)
        = mx (fun i => scr v17 v19 x4 x5 q i * L2e) (512 * j + 512) := fun z q => by
      rw [stepM_at, hm, mx_add]; simp only [pay10_kBlk]
    have hP : ∀ k q, stepP (k0_pay10 (F := Ideal) v17 v19 x4 (kBlk x5 j)) (stT v17 v19 x4 x5 xs j).1 (ix2 k q)
        = Ideal.exp2 (scr v17 v19 x4 x5 q (512 * j + k.val) * L2e - mx (fun i => scr v17 v19 x4 x5 q i * L2e) (512 * j + 512)) := fun k q => by
      rw [stepP_at, hM, pay10_kBlk]
    have e : 512 * (j + 1) = 512 * j + 512 := by ring
    rw [e]
    refine ⟨fun z q => ?_, fun z q => ?_, fun d q => ?_⟩
    · exact hM z q
    · show stepL (k0_pay10 (F := Ideal) v17 v19 x4 (kBlk x5 j)) (stT v17 v19 x4 x5 xs j).1 (stT v17 v19 x4 x5 xs j).2.1 (ix2 z q) = _
      rw [stepL_at, hM, hm, hl, lw_add]; simp only [hP]
    · show stepA (k0_pay10 (F := Ideal) v17 v19 x4 (kBlk x5 j)) (stT v17 v19 x4 x5 xs j).1 (stT v17 v19 x4 x5 xs j).2.2 (vBlk xs j) (ix2 d q) = _
      rw [stepA_at, hM, hm, ha, av_add]; simp only [hP, vBlk_at]

/-- The masked scores of the query at row `q` of block `n`. -/
def msk (n : ℕ) (q : Fin 512) (i : ℕ) : EReal := if i ≤ 512 * n + q.val then scr v17 v19 x4 x5 q i else ⊥

/-- A finished output element is the normalised softmax of the masked scores over all keys, against the values, times the value scale. -/
theorem oBlk_at (i : grid0.Coords) (v78 : Elt Ideal .f32) (hn : (i 3).val < 48) (d : Fin 128) (q : Fin 512) :
    oBlk (F := Ideal) i v17 v19 v78 x4 x5 xs (ix2 d q) = attn (msk v17 v19 x4 x5 (i 3).val q) (vrow xs d) * (v78 : EReal) := by
  unfold oBlk
  rw [pay22_eq]
  generalize (i 3).val = n at hn ⊢
  obtain ⟨hm, hl, ha⟩ := stT_at v17 v19 x4 x5 xs n
  have hq := q.isLt
  have c : ∀ i, i < 512 * n → scr v17 v19 x4 x5 q i * L2e = msk v17 v19 x4 x5 n q i * L2e := fun i hi => by
    unfold msk; rw [if_pos (by omega)]
  have hS : ∀ k : Fin 512, maskS (BitVec.ofNat 32 n) (k0_pay10 (F := Ideal) v17 v19 x4 (kBlk x5 n)) (ix2 k q) = msk v17 v19 x4 x5 n q (512 * n + k.val) * L2e := fun k => by
    rw [maskS_at n hn, pay10_kBlk]
    unfold msk
    by_cases h : k.val ≤ q.val
    · rw [if_pos h, if_pos (by omega)]
    · rw [if_neg h, if_neg (by omega)]; exact (EReal.bot_mul_coe_of_pos log2_pos).symm
  have hm' : ∀ z, (stT (F := Ideal) v17 v19 x4 x5 xs n).1 (ix2 z q) = mx (fun i => msk v17 v19 x4 x5 n q i * L2e) (512 * n) := fun z => (hm z q).trans (mx_congr c)
  have hl' : ∀ z, (stT (F := Ideal) v17 v19 x4 x5 xs n).2.1 (ix2 z q) = lw (fun i => msk v17 v19 x4 x5 n q i * L2e) (512 * n) := fun z => (hl z q).trans (lw_congr c)
  have ha' : (stT (F := Ideal) v17 v19 x4 x5 xs n).2.2 (ix2 d q) = av (fun i => msk v17 v19 x4 x5 n q i * L2e) (vrow xs d) (512 * n) := (ha d q).trans (av_congr c fun _ _ => rfl)
  have hM : ∀ z, stepM (maskS (BitVec.ofNat 32 n) (k0_pay10 (F := Ideal) v17 v19 x4 (kBlk x5 n))) (stT v17 v19 x4 x5 xs n).1 (ix2 z q)
      = mx (fun i => msk v17 v19 x4 x5 n q i * L2e) (512 * n + 512) := fun z => by
    rw [stepM_at, hm', mx_add]; simp only [hS]
  have hP : ∀ k, stepP (maskS (BitVec.ofNat 32 n) (k0_pay10 (F := Ideal) v17 v19 x4 (kBlk x5 n))) (stT v17 v19 x4 x5 xs n).1 (ix2 k q)
      = Ideal.exp2 (msk v17 v19 x4 x5 n q (512 * n + k.val) * L2e - mx (fun i => msk v17 v19 x4 x5 n q i * L2e) (512 * n + 512)) := fun k => by
    rw [stepP_at, hM, hS]
  rw [finO_at, stepA_at, stepL_at, hM, hm', hl', ha']
  simp only [hP, vBlk_at]
  rw [← lw_add, ← av_add]
  rw [finish_exp (msk v17 v19 x4 x5 n q) (vrow xs d) (show 512 * n + 512 ≤ 24576 by omega) fun i hi => by unfold msk; rw [if_neg (by omega)]]

end State

end Cert.KernelIdeal.Body
-- ==== Proof.Spec.lean ====
/-
  What both programs compute, element by element, over the extended reals: causal softmax attention with grouped
  key heads, from the argument arrays.
-/
module

public import proofs.«01_k».proof.Proof.Online
public import Idealize.ShloMosaic.Lib.Pointwise

@[expose] public section

noncomputable section

namespace Cert.Spec

open Idealize.ShloMosaic Cert.Online

/-- An array of queries or results. -/
abbrev Wide := (⟨3, ![2, 24576, 3072]⟩ : Shape).Idx → EReal
/-- An array of keys or values. -/
abbrev Slim := (⟨3, ![2, 24576, 1024]⟩ : Shape).Idx → EReal
/-- A table with one entry for each query head. -/
abbrev Tab24 := (⟨1, ![24]⟩ : Shape).Idx → EReal
/-- A table with one entry for each key head. -/
abbrev Tab8 := (⟨1, ![8]⟩ : Shape).Idx → EReal

/-- The key head of a query head. -/
def kvh (h : Fin 24) : Fin 8 := ⟨h.val / 3, by omega⟩

/-- Column `d` of query head `h`. -/
def qcol (h : Fin 24) (d : Fin 128) : Fin 3072 := ⟨h.val * 128 + d.val, by omega⟩
/-- Column `d` of the key head that query head `h` uses. -/
def kcol (h : Fin 24) (d : Fin 128) : Fin 1024 := ⟨h.val / 3 * 128 + d.val, by omega⟩

/-- Key number `j`, as an index. -/
def key (j : ℕ) : Fin 24576 := ⟨j % 24576, Nat.mod_lt _ (by decide)⟩

/-- A key in range is itself. -/
theorem key_val (j : Fin 24576) : key j.val = j := Fin.ext (Nat.mod_eq_of_lt j.isLt)

/-- The masked score of key `j` for query `i`: `⊥` for a later key. -/
def score (q : Wide) (k : Slim) (qs : Tab24) (ks : Tab8) (b : Fin 2) (h : Fin 24) (i : Fin 24576) (j : ℕ) : EReal :=
  if j ≤ i.val then
    (∑ d : Fin 128, q (ix3 b i (qcol h d)) * k (ix3 b (key j) (kcol h d)))
      * ((qs (ix1 h) * ks (ix1 (kvh h))) * Ideal.ofBits .f32 0x3DB504F3#32)
  else ⊥

/-- The score of a key in range. -/
theorem score_fin (q : Wide) (k : Slim) (qs : Tab24) (ks : Tab8) (b : Fin 2) (h : Fin 24) (i j : Fin 24576) :
    score q k qs ks b h i j.val = if j.val ≤ i.val then
      (∑ d : Fin 128, q (ix3 b i (qcol h d)) * k (ix3 b j (kcol h d))) * ((qs (ix1 h) * ks (ix1 (kvh h))) * Ideal.ofBits .f32 0x3DB504F3#32)
    else ⊥ := by
  unfold score
  rw [key_val]

/-- The value of key `j` at column `d`. -/
def val (v : Slim) (b : Fin 2) (h : Fin 24) (d : Fin 128) (j : ℕ) : EReal :=
  v (ix3 b (key j) (kcol h d))

/-- The attention output before quantisation. -/
def out (q : Wide) (k v : Slim) (qs : Tab24) (ks vs : Tab8) (b : Fin 2) (h : Fin 24) (i : Fin 24576) (d : Fin 128) : EReal :=
  attn (score q k qs ks b h i) (val v b h d) * vs (ix1 (kvh h))

/-- The query head of a column. -/
def hd (c : Fin 3072) : Fin 24 := ⟨c.val / 128, by omega⟩
/-- The column within the head. -/
def dc (c : Fin 3072) : Fin 128 := ⟨c.val % 128, Nat.mod_lt _ (by decide)⟩

/-- The code of an output: scaled by the reciprocal of the output scale and clamped to ±448. -/
def code (o s : EReal) : EReal :=
  min (Ideal.ofBits .f32 0x43E00000#32) (max (Ideal.ofBits .f32 0xC3E00000#32) (o * Ideal.div 1 s))

/-- A maximum over triples is at least each entry, and at most any bound on the entries. -/
theorem le_sup3 {A B C : Type*} [Fintype A] [Fintype B] [Fintype C] (f : A → B → C → EReal) (a : A) (b : B) (c : C) :
    f a b c ≤ (Finset.univ : Finset (A × B × C)).sup fun p => f p.1 p.2.1 p.2.2 :=
  Finset.le_sup (f := fun p : A × B × C => f p.1 p.2.1 p.2.2) (Finset.mem_univ (a, b, c))

/-- A bound of all values bounds their supremum. -/
theorem sup3_le {A B C : Type*} [Fintype A] [Fintype B] [Fintype C] (f : A → B → C → EReal) (x : EReal) (h : ∀ a b c, f a b c ≤ x) :
    ((Finset.univ : Finset (A × B × C)).sup fun p => f p.1 p.2.1 p.2.2) ≤ x :=
  Finset.sup_le fun p _ => h p.1 p.2.1 p.2.2

/-- The greatest output magnitude of a head. -/
def amax (q : Wide) (k v : Slim) (qs : Tab24) (ks vs : Tab8) (h : Fin 24) : EReal :=
  (Finset.univ : Finset (Fin 2 × Fin 24576 × Fin 128)).sup fun p =>
    max (out q k v qs ks vs p.1 h p.2.1 p.2.2) (-out q k v qs ks vs p.1 h p.2.1 p.2.2)

/-- Every magnitude of a head is at most its amax. -/
theorem le_amax (q : Wide) (k v : Slim) (qs : Tab24) (ks vs : Tab8) (b : Fin 2) (h : Fin 24) (i : Fin 24576) (d : Fin 128) :
    max (out q k v qs ks vs b h i d) (-out q k v qs ks vs b h i d) ≤ amax q k v qs ks vs h :=
  le_sup3 (fun b i d => max (out q k v qs ks vs b h i d) (-out q k v qs ks vs b h i d)) b i d

/-- A bound of all magnitudes of a head bounds its amax. -/
theorem amax_le (q : Wide) (k v : Slim) (qs : Tab24) (ks vs : Tab8) (h : Fin 24) (x : EReal)
    (hx : ∀ b i d, max (out q k v qs ks vs b h i d) (-out q k v qs ks vs b h i d) ≤ x) : amax q k v qs ks vs h ≤ x :=
  sup3_le (fun b i d => max (out q k v qs ks vs b h i d) (-out q k v qs ks vs b h i d)) x hx

/-- A magnitude is not negative. -/
theorem abs_nonneg' (x : EReal) : 0 ≤ max x (-x) := by
  rcases le_total 0 x with h | h
  · exact le_max_of_le_left h
  · refine le_max_of_le_right ?_
    rw [← neg_zero]; exact EReal.neg_le_neg_iff.2 h

/-- An amax is not negative. -/
theorem amax_nonneg (q : Wide) (k v : Slim) (qs : Tab24) (ks vs : Tab8) (h : Fin 24) : 0 ≤ amax q k v qs ks vs h :=
  (abs_nonneg' _).trans (le_amax q k v qs ks vs 0 h 0 0)

/-- The literal of minus infinity. -/
theorem ofBits_negInf : Ideal.ofBits .f32 0xFF800000#32 = ⊥ := by simp [Ideal.ofBits, Ideal.ieee]

end Cert.Spec
-- ==== Proof.KOut.lean ====
/-
  The kernel's output block and amax array at every grid point, over the extended reals, from the argument arrays.
-/
module

public import proofs.«01_k».proof.Proof.KRes
public import proofs.«01_k».proof.Proof.KIdx
public import proofs.«01_k».proof.Proof.Spec

@[expose] public section

-- literals of the long axes (24576) are looked into once per unit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Online

variable (m : (ℓ : Loc nD τ sig) → Buf (Elt Ideal) ℓ)

/-- The argument arrays, as the shared description reads them: the queries. -/
def aQ (c : Dev nD) : Spec.Wide := m ((c : Thread nD τ).loc main_arg0)
/-- The keys. -/
def aK (c : Dev nD) : Spec.Slim := m ((c : Thread nD τ).loc main_arg1)
/-- The values. -/
def aV (c : Dev nD) : Spec.Slim := m ((c : Thread nD τ).loc main_arg2)
/-- The scales of the query heads. -/
def aQs (c : Dev nD) : Spec.Tab24 := m ((c : Thread nD τ).loc main_arg3)
/-- The scales of the key heads. -/
def aKs (c : Dev nD) : Spec.Tab8 := m ((c : Thread nD τ).loc main_arg4)
/-- The scales of the value heads. -/
def aVs (c : Dev nD) : Spec.Tab8 := m ((c : Thread nD τ).loc main_arg5)
/-- The output scales. -/
def aOs (c : Dev nD) : Spec.Tab24 := m ((c : Thread nD τ).loc main_arg6)

/-- The batch of a point. -/
def ptB (n : ℕ) (hn : n < cfg0.N) : Fin 2 := ⟨n / 1152, by have := lt_of_lt_of_eq hn N_eq; omega⟩
/-- The query head of a point. -/
def ptH (n : ℕ) : Fin 24 := ⟨n / 48 % 24, Nat.mod_lt _ (by decide)⟩
/-- The query row of a row of a point's block. -/
def ptR (n : ℕ) (q : Fin 512) : Fin 24576 := ⟨n % 48 * 512 + q.val, by omega⟩

/-- The query head of a point from its coordinates. -/
theorem coord_h (n : ℕ) (hn : n < cfg0.N) : 3 * (grid0.coords ⟨n, hn⟩ 1).val + (grid0.coords ⟨n, hn⟩ 2).val = n / 48 % 24 := by
  rw [coord_1, coord_2]
  show 3 * (n / 144 % 8) + n / 48 % 3 = n / 48 % 24
  omega

/-- The entry a point reads of a table of query heads. -/
theorem at24_at (x : Vec Ideal S24 .f32) (n : ℕ) (hn : n < cfg0.N) : at24 x (grid0.coords ⟨n, hn⟩) = x (ix1 (ptH n)) := by
  unfold at24
  rw [ix1_eq_valueIdx]
  refine congrArg x (congrArg ValueIdx.ix1 (Fin.ext ?_))
  show (3 * (grid0.coords ⟨n, hn⟩ 1).val + (grid0.coords ⟨n, hn⟩ 2).val) % 24 = n / 48 % 24
  rw [coord_h, Nat.mod_mod]

/-- The entry a point reads of a table of key heads. -/
theorem at8_at (x : Vec Ideal S8 .f32) (n : ℕ) (hn : n < cfg0.N) : at8 x (grid0.coords ⟨n, hn⟩) = x (ix1 (Spec.kvh (ptH n))) := by
  unfold at8
  rw [ix1_eq_valueIdx]
  refine congrArg x (congrArg ValueIdx.ix1 (Fin.ext ?_))
  show (grid0.coords ⟨n, hn⟩ 1).val % 8 = n / 48 % 24 / 3
  rw [coord_1]
  show n / 144 % 8 % 8 = n / 48 % 24 / 3
  omega

/-- The scores of a point's query row are the shared description's. -/
theorem msk_at (c : Dev nD) (n : ℕ) (hn : n < cfg0.N) (q : Fin 512) :
    msk (at24 (iblk m c 0 ⟨n, hn⟩) (grid0.coords ⟨n, hn⟩)) (at8 (iblk m c 1 ⟨n, hn⟩) (grid0.coords ⟨n, hn⟩)) (iblk m c 4 ⟨n, hn⟩) (iblk m c 5 ⟨n, hn⟩)
        (grid0.coords ⟨n, hn⟩ 3).val q
      = Spec.score (aQ m c) (aK m c) (aQs m c) (aKs m c) (ptB n hn) (ptH n) (ptR n q) := by
  have hN : n < 2304 := lt_of_lt_of_eq hn N_eq
  funext j
  unfold msk Spec.score scr scl
  rw [coord_3, at24_at, at8_at, iblk_0, iblk_1]
  refine if_congr ?_ ?_ rfl
  · show j ≤ 512 * (n / 1 % 48) + q.val ↔ j ≤ n % 48 * 512 + q.val
    omega
  · refine congrArg₂ (fun a b : EReal => a * b) (Finset.sum_congr rfl fun d _ => ?_) rfl
    rw [mul_comm]
    refine congrArg₂ (fun a b : EReal => a * b) ?_ ?_
    · refine iblk_4 m c ⟨n, hn⟩ _ (ix3 (ptB n hn) (ptR n q) (Spec.qcol (ptH n) d)) ?_ ?_ ?_
      · rfl
      · rfl
      · rfl
    · refine iblk_5 m c ⟨n, hn⟩ _ (ix3 (ptB n hn) (Spec.key j) (Spec.kcol (ptH n) d)) ?_ ?_ ?_
      · rfl
      · rfl
      · show n / 48 % 24 / 3 * 128 + d.val = n / 144 % 8 * 128 + d.val
        omega

/-- The values a point reads are the shared description's. -/
theorem vrow_at (c : Dev nD) (n : ℕ) (hn : n < cfg0.N) (d : Fin 128) :
    vrow (scrAt m c n hn) d = Spec.val (aV m c) (ptB n hn) (ptH n) d := by
  have hN : n < 2304 := lt_of_lt_of_eq hn N_eq
  funext j
  unfold vrow scrAt Spec.val
  rw [vtOf_at]
  refine iblk_6 m c _ _ (ix3 (ptB n hn) (Spec.key j) (Spec.kcol (ptH n) d)) ?_ ?_ ?_
  · show n / 1152 = n / 144 * 144 / 1152
    omega
  · rfl
  · show n / 48 % 24 / 3 * 128 + d.val = n / 144 * 144 / 144 % 8 * 128 + d.val
    omega

/-- A point's output block is the attention output of its batch, head and query rows. -/
theorem oAt_at (c : Dev nD) (n : ℕ) (hn : n < cfg0.N) (d : Fin 128) (q : Fin 512) :
    oAt m c n hn (ix2 d q) = Spec.out (aQ m c) (aK m c) (aV m c) (aQs m c) (aKs m c) (aVs m c) (ptB n hn) (ptH n) (ptR n q) d := by
  unfold oAt oPt
  rw [oBlk_at _ _ _ _ _ _ _ (by rw [coord_3]; exact Nat.mod_lt _ (by decide)), msk_at, vrow_at, at8_at, iblk_2]
  rfl

/-! ## The amax array -/

/-- The greatest magnitude in a block. -/
def bmax (o : FVec Ideal S128x512 .f32) : EReal :=
  (Finset.univ : Finset (Fin 128 × Fin 512)).sup fun p => max (o (ix2 p.1 p.2) : EReal) (-(o (ix2 p.1 p.2) : EReal))

/-- Every magnitude of a block is at most the greatest. -/
theorem le_bmax (o : FVec Ideal S128x512 .f32) (d : Fin 128) (q : Fin 512) : max (o (ix2 d q) : EReal) (-(o (ix2 d q) : EReal)) ≤ bmax o :=
  Finset.le_sup (f := fun p : Fin 128 × Fin 512 => max (o (ix2 p.1 p.2) : EReal) (-(o (ix2 p.1 p.2) : EReal))) (Finset.mem_univ (d, q))

/-- The greatest magnitude is at most any bound of them all. -/
theorem bmax_le (o : FVec Ideal S128x512 .f32) (x : EReal) (h : ∀ d q, max (o (ix2 d q) : EReal) (-(o (ix2 d q) : EReal)) ≤ x) : bmax o ≤ x :=
  Finset.sup_le fun p _ => h p.1 p.2

/-- A point raises its own head's row, and no other. -/
theorem amaxPut_at (x8 : Vec Ideal S24x8x128 .f32) (n : ℕ) (hn : n < cfg0.N) (o : FVec Ideal S128x512 .f32) (h : Fin 24) (a : Fin 8) (b : Fin 128) :
    amaxPut (F := Ideal) x8 (grid0.coords ⟨n, hn⟩) o (ix3 h a b)
      = if h = ptH n then max (x8 (ix3 h a b) : EReal) (bmax o) else x8 (ix3 h a b) := by
  unfold amaxPut
  rw [coord_h]
  by_cases e : h = ptH n
  · rw [if_pos e, if_pos (show ((ix3 h a b : S24x8x128.Idx) 0).val = n / 48 % 24 from congrArg Fin.val e)]
    have hr : amaxRow (F := Ideal) x8 (grid0.coords ⟨n, hn⟩) (ix3 (n0 := 1) 0 a b) = x8 (ix3 h a b) := by
      unfold amaxRow
      rw [ix3_eq_valueIdx (n0 := 24)]
      refine congrArg x8 (congrArg (fun r => ValueIdx.ix3 (n0 := 24) (n1 := 8) (n2 := 128) r a b) (Fin.ext ?_))
      show (3 * (grid0.coords ⟨n, hn⟩ 1).val + (grid0.coords ⟨n, hn⟩ 2).val) % 24 = h.val
      rw [coord_h, Nat.mod_mod, e]
      rfl
    rw [← hr]
    refine Eq.trans ?_ (pay1_at o (amaxRow (F := Ideal) x8 (grid0.coords ⟨n, hn⟩)) 0 a b)
    exact congrArg (k0_pay1 (F := Ideal) o (amaxRow (F := Ideal) x8 (grid0.coords ⟨n, hn⟩))) (ix3_eq_valueIdx (n0 := 1) (n1 := 8) (n2 := 128) 0 a b).symm
  · rw [if_neg e, if_neg (show ¬ ((ix3 h a b : S24x8x128.Idx) 0).val = n / 48 % 24 from fun h' => e (Fin.ext h'))]

/-- The amax array after the first point. -/
theorem amaxAt_zero (c : Dev nD) (hn : 0 < cfg0.N) :
    amaxAt m c 0 hn = amaxPut (k0_pay3 (F := Ideal)) (grid0.coords ⟨0, hn⟩) (oAt m c 0 hn) := rfl

/-- The amax array after a later point. -/
theorem amaxAt_succ (c : Dev nD) (n : ℕ) (hn : n + 1 < cfg0.N) :
    amaxAt m c (n + 1) hn = amaxPut (amaxAt m c n (Nat.lt_of_succ_lt hn)) (grid0.coords ⟨n + 1, hn⟩) (oAt m c (n + 1) hn) := rfl

/-- The amax array starts at zero. -/
theorem pay3_at (h : Fin 24) (a : Fin 8) (b : Fin 128) : (k0_pay3 (F := Ideal) (ix3 h a b) : EReal) = 0 := by
  unfold k0_pay3
  simp only [pointwise]

/-- After point `n` a head's entry is at most the head's amax. -/
theorem amaxAt_le (c : Dev nD) (n : ℕ) (hn : n < cfg0.N) (h : Fin 24) (a : Fin 8) (b : Fin 128) :
    amaxAt m c n hn (ix3 h a b) ≤ Spec.amax (aQ m c) (aK m c) (aV m c) (aQs m c) (aKs m c) (aVs m c) h := by
  have hb : ∀ n hn, bmax (oAt m c n hn) ≤ Spec.amax (aQ m c) (aK m c) (aV m c) (aQs m c) (aKs m c) (aVs m c) (ptH n) := fun n hn =>
    bmax_le _ _ fun d q => by rw [oAt_at]; exact Spec.le_amax _ _ _ _ _ _ _ _ _ _
  induction n with
  | zero =>
    rw [amaxAt_zero, amaxPut_at]
    have hz : (k0_pay3 (F := Ideal) (ix3 h a b) : EReal) ≤ Spec.amax (aQ m c) (aK m c) (aV m c) (aQs m c) (aKs m c) (aVs m c) h :=
      (le_of_eq (pay3_at h a b)).trans (Spec.amax_nonneg _ _ _ _ _ _ _)
    by_cases e : h = ptH 0
    · rw [if_pos e]; exact max_le hz (e ▸ hb 0 hn)
    · rw [if_neg e]; exact hz
  | succ n ih =>
    rw [amaxAt_succ, amaxPut_at]
    by_cases e : h = ptH (n + 1)
    · rw [if_pos e]; exact max_le (ih _) (e ▸ hb (n + 1) hn)
    · rw [if_neg e]; exact ih _

/-- After point `n` a head's entry is at least the greatest magnitude of every block of the head so far. -/
theorem le_amaxAt (c : Dev nD) (n : ℕ) (hn : n < cfg0.N) (n' : ℕ) (hn' : n' < cfg0.N) (hle : n' ≤ n) (a : Fin 8) (b : Fin 128) :
    bmax (oAt m c n' hn') ≤ amaxAt m c n hn (ix3 (ptH n') a b) := by
  induction n with
  | zero =>
    obtain rfl : n' = 0 := by omega
    rw [amaxAt_zero, amaxPut_at, if_pos rfl]
    exact le_max_right _ _
  | succ n ih =>
    rw [amaxAt_succ, amaxPut_at]
    by_cases e : n' = n + 1
    · subst e
      rw [if_pos rfl]
      exact le_max_right _ _
    · have := ih (Nat.lt_of_succ_lt hn) (by omega)
      by_cases e' : ptH n' = ptH (n + 1)
      · rw [if_pos e']; exact le_max_of_le_left this
      · rw [if_neg e']; exact this

/-! ## The two results -/

/-- The codes of the kernel's run. -/
theorem codesArr_val (c : Dev nD) (b : Fin 2) (i : Fin 24576) (x : Fin 3072) :
    codesArr m c (ix3 b i x)
      = Spec.code (Spec.out (aQ m c) (aK m c) (aV m c) (aQs m c) (aKs m c) (aVs m c) b (Spec.hd x) i (Spec.dc x)) (aOs m c (ix1 (Spec.hd x))) := by
  have hn := ptOf_lt (ix3 b i x)
  have e : codesArr m c (ix3 b i x) = k0_pay2 (oAt m c (ptOf (ix3 b i x)) hn) (at24 (iblk m c 3 ⟨ptOf (ix3 b i x), hn⟩) (grid0.coords ⟨ptOf (ix3 b i x), hn⟩))
      (ix3 (n0 := 1) (n1 := 512) (n2 := 128) 0 ⟨i.val % 512, Nat.mod_lt _ (by decide)⟩ (Spec.dc x)) := by
    unfold codesArr codesAt
    rw [ix3_eq_valueIdx (n0 := 1) (n1 := 512) (n2 := 128)]
    rfl
  have hp : ptOf (ix3 b i x) = b.val * 1152 + x.val / 128 * 48 + i.val / 512 := rfl
  have hb := b.isLt
  have hi := i.isLt
  have hx := x.isLt
  rw [e, pay2_at, oAt_at, at24_at, iblk_3]
  have h1 : ptB (ptOf (ix3 b i x)) hn = b := Fin.ext (show ptOf (ix3 b i x) / 1152 = b.val by rw [hp]; omega)
  have h2 : ptH (ptOf (ix3 b i x)) = Spec.hd x := Fin.ext (show ptOf (ix3 b i x) / 48 % 24 = x.val / 128 by rw [hp]; omega)
  have h3 : ptR (ptOf (ix3 b i x)) ⟨i.val % 512, Nat.mod_lt _ (by decide)⟩ = i :=
    Fin.ext (show ptOf (ix3 b i x) % 48 * 512 + i.val % 512 = i.val by rw [hp]; omega)
  rw [h1, h2, h3]
  rfl

/-- The amax of the kernel's run. -/
theorem amaxRes_val (c : Dev nD) (h : Fin 24) :
    amaxRes m c (ix1 h) = Spec.amax (aQ m c) (aK m c) (aV m c) (aQs m c) (aKs m c) (aVs m c) h := by
  have e : amaxRes m c (ix1 h) = amaxAt m c 2303 tLast.isLt (ix3 (n0 := 24) (n1 := 8) (n2 := 128) h 0 0) := by
    unfold amaxRes
    rw [ix3_eq_valueIdx]
    rfl
  rw [e]
  refine le_antisymm (amaxAt_le m c _ _ h 0 0) (Spec.amax_le _ _ _ _ _ _ _ _ fun b i d => ?_)
  have hb := b.isLt
  have hi := i.isLt
  have hh := h.isLt
  have hn : b.val * 1152 + h.val * 48 + i.val / 512 < cfg0.N := by rw [N_eq]; omega
  have h1 : ptB (b.val * 1152 + h.val * 48 + i.val / 512) hn = b := Fin.ext (show (b.val * 1152 + h.val * 48 + i.val / 512) / 1152 = b.val by omega)
  have h2 : ptH (b.val * 1152 + h.val * 48 + i.val / 512) = h := Fin.ext (show (b.val * 1152 + h.val * 48 + i.val / 512) / 48 % 24 = h.val by omega)
  have h3 : ptR (b.val * 1152 + h.val * 48 + i.val / 512) ⟨i.val % 512, Nat.mod_lt _ (by decide)⟩ = i :=
    Fin.ext (show (b.val * 1152 + h.val * 48 + i.val / 512) % 48 * 512 + i.val % 512 = i.val by omega)
  have := (le_bmax (oAt m c _ hn) d ⟨i.val % 512, Nat.mod_lt _ (by decide)⟩).trans (le_amaxAt m c 2303 tLast.isLt _ hn (by omega) 0 0)
  rw [oAt_at, h1, h2, h3] at this
  exact this

end Cert.KernelIdeal.Body
-- ==== Proof.RScore.lean ====
/-
  The reference's values and masked scores at an index, over the extended reals.
-/
module

public import proofs.«01_k».proof.Proof.Gen.ReferenceIdeal.Value
public import Idealize.ShloMosaic.Lib.Pointwise
public import proofs.«01_k».proof.Proof.Spec

@[expose] public section

set_option maxRecDepth 16384

noncomputable section

namespace Cert.ReferenceIdeal.Body

open Cert.ReferenceIdeal Cert.ReferenceIdeal.Gen Cert.ReferenceIdeal.Value Cert.Online Cert.Spec
open Idealize.ShloMosaic

/-- The repeated values: head `h` of batch `b` is the key head's columns. -/
theorem pay4_at (v : Vec Ideal S2x24576x1024 .fp8e4m3) (b : Fin 2) (h : Fin 24) (hz : b.val * 24 + h.val < 48) (j : Fin 24576) (d : Fin 128) :
    k0_pay4 (F := Ideal) v (ix3 ⟨b.val * 24 + h.val, hz⟩ j d) = val v b h d j.val := by
  unfold k0_pay4
  simp only [pointwise]
  unfold val kcol
  rw [key_val]
  rfl

/-- The column number of an element of the mask. -/
theorem foldl_1 (i j : Fin 24576) :
    List.foldl (fun n (a : Fin 2) => n * (![24576, 24576] : Fin 2 → ℕ) a + (ix2 i j a).val) 0 [1] = j.val := by
  rw [List.foldl_cons, List.foldl_nil, ix2_1, zero_mul, zero_add]

/-- The row number of an element of the mask. -/
theorem foldl_0 (i j : Fin 24576) :
    List.foldl (fun n (a : Fin 2) => n * (![24576, 24576] : Fin 2 → ℕ) a + (ix2 i j a).val) 0 [0] = i.val := by
  rw [List.foldl_cons, List.foldl_nil, ix2_0, zero_mul, zero_add]

/-- The causal comparison: key at most query. -/
theorem causal (i j : Fin 24576) :
    IntOp.cmpi .sle (BitVec.ofNat 32 j.val) (BitVec.ofNat 32 i.val) = BitVec.ofBool (decide (j.val ≤ i.val)) := by
  have hi : i.val < 24576 := i.isLt
  have hj : j.val < 24576 := j.isLt
  have e : ∀ x : ℕ, x < 24576 → (BitVec.ofNat 32 x).toInt = (x : ℤ) := by
    intro x hx
    have : (BitVec.ofNat 32 x).toNat = x := by simp only [BitVec.toNat_ofNat]; omega
    rw [BitVec.toInt_eq_toNat_of_lt (by omega), this]
  show BitVec.ofBool (BitVec.sle (BitVec.ofNat 32 j.val) (BitVec.ofNat 32 i.val)) = _
  rw [BitVec.sle_eq_decide, e _ hi, e _ hj]
  exact congrArg _ (decide_eq_decide.2 (by omega))

/-- A select on a decided condition. -/
theorem select_ofBool (p : Prop) [Decidable p] (x y : EReal) : Scalar.select (BitVec.ofBool (decide p)) x y = if p then x else y := by
  by_cases h : p
  · rw [if_pos h, decide_eq_true h]; rfl
  · rw [if_neg h, decide_eq_false h]; rfl

/-- The masked scores. -/
theorem pay5_at (q : Vec Ideal S2x24576x3072 .fp8e4m3) (k : Vec Ideal S2x24576x1024 .fp8e4m3) (qs : Vec Ideal S24 .f32) (ks : Vec Ideal S8 .f32)
    (b : Fin 2) (h : Fin 24) (i j : Fin 24576) :
    k0_pay5 (F := Ideal) q k qs ks (ix4 b h i j) = score q k qs ks b h i j.val := by
  unfold k0_pay5
  simp only [pointwise]
  rw [Spec.ofBits_negInf, zero_add]
  refine Eq.trans (congrArg (fun c => Scalar.select c _ _) (?_ : _ = BitVec.ofBool (decide (j.val ≤ i.val)))) ?_
  · rw [← causal]
    refine congrArg₂ (IntOp.cmpi .sle) (congrArg _ ?_) (congrArg _ ?_)
    · exact foldl_1 i j
    · exact foldl_0 i j
  · refine (select_ofBool (j.val ≤ i.val) _ _).trans ?_
    refine Eq.trans (if_congr Iff.rfl ?_ rfl) (score_fin q k qs ks b h i j).symm
    refine congrArg₂ (fun a b : EReal => a * b) (Finset.sum_congr rfl fun d _ => ?_) ?_
    · refine congrArg₂ (fun a b : EReal => a * b) (congrArg q ?_) (congrArg k ?_)
      · rfl
      · rfl
    · refine congrArg₂ (fun a b : EReal => a * b) (congrArg₂ (fun a b : EReal => a * b) (congrArg qs ?_) (congrArg ks ?_)) rfl
      · rfl
      · rfl

end Cert.ReferenceIdeal.Body
-- ==== Proof.ROut.lean ====
/-
  The reference's output element is the attention output, before quantisation.
-/
module

public import proofs.«01_k».proof.Proof.Gen.ReferenceIdeal.Value
public import Idealize.ShloMosaic.Lib.Pointwise
public import proofs.«01_k».proof.Proof.RScore

@[expose] public section

set_option maxRecDepth 16384

noncomputable section

namespace Cert.ReferenceIdeal.Body

open Cert.ReferenceIdeal Cert.ReferenceIdeal.Gen Cert.ReferenceIdeal.Value Cert.Online Cert.Spec
open Idealize.ShloMosaic

/-- The row maxima, along the row. -/
theorem pay6_at (q : Vec Ideal S2x24576x3072 .fp8e4m3) (k : Vec Ideal S2x24576x1024 .fp8e4m3) (qs : Vec Ideal S24 .f32) (ks : Vec Ideal S8 .f32)
    (b : Fin 2) (h : Fin 24) (i j : Fin 24576) :
    k0_pay6 (F := Ideal) q k qs ks (ix4 b h i j) = mx (score q k qs ks b h i) 24576 := by
  unfold k0_pay6
  simp only [pointwise]
  rw [Spec.ofBits_negInf, mx_fin]
  unfold Finset.sup
  refine Finset.fold_congr fun x _ => ?_
  refine Eq.trans ?_ (pay5_at q k qs ks b h i x)
  refine congrArg (k0_pay5 (F := Ideal) q k qs ks) ?_
  rfl

/-- The attention output, from any scores, maxima and repeated values. -/
theorem pay1_at (v : FVec Ideal S48x24576x128 .bf16) (s mm : FVec Ideal S2x24x24576x24576 .f32) (vs : Vec Ideal S8 .f32)
    (b : Fin 2) (h : Fin 24) (i : Fin 24576) (d : Fin 128) :
    k0_pay1 (F := Ideal) v s mm vs (ix4 b h i d)
      = (∑ j : Fin 24576, (Ideal.exp ((s (ix4 b h i j) : EReal) - mm (ix4 b h i j))
          * Ideal.div 1 (∑ k : Fin 24576, Ideal.exp ((s (ix4 b h i k) : EReal) - mm (ix4 b h i k))))
          * v (ix3 (n0 := 48) (n1 := 24576) (n2 := 128) ⟨b.val * 24 + h.val, by omega⟩ j d)) * (vs (ix1 (kvh h)) : EReal) := by
  unfold k0_pay1
  simp only [pointwise]
  rw [zero_add]
  refine congrArg₂ (fun a b : EReal => a * b) (Finset.sum_congr rfl fun j _ => ?_) (congrArg vs ?_)
  · refine congrArg₂ (fun a b : EReal => a * b) (congrArg₂ (fun a b : EReal => a * b) rfl (congrArg (Ideal.div 1) (Finset.sum_congr rfl fun k _ => ?_))) rfl
    refine congrArg Ideal.exp (congrArg₂ (fun a b : EReal => a - b) (congrArg s ?_) (congrArg mm ?_))
    · rfl
    · rfl
  · rfl

section Whole
variable (q : Vec Ideal S2x24576x3072 .fp8e4m3) (k v : Vec Ideal S2x24576x1024 .fp8e4m3) (qs os : Vec Ideal S24 .f32) (ks vs : Vec Ideal S8 .f32)

/-- The reference's output element is the attention output. -/
theorem pay1_out (b : Fin 2) (h : Fin 24) (i : Fin 24576) (d : Fin 128) :
    k0_pay1 (F := Ideal) (k0_pay4 v) (k0_pay5 q k qs ks) (k0_pay6 q k qs ks) vs (ix4 b h i d) = out q k v qs ks vs b h i d := by
  rw [pay1_at]
  simp only [pay5_at, pay6_at, pay4_at]
  unfold out
  rw [attn_fin]

end Whole

end Cert.ReferenceIdeal.Body
-- ==== Proof.RRes.lean ====
/-
  The reference's two results: the codes and the greatest magnitudes of the attention output.
-/
module

public import proofs.«01_k».proof.Proof.Gen.ReferenceIdeal.Value
public import Idealize.ShloMosaic.Lib.Pointwise
public import proofs.«01_k».proof.Proof.ROut

@[expose] public section

set_option maxRecDepth 16384

noncomputable section

namespace Cert.ReferenceIdeal.Body

open Cert.ReferenceIdeal Cert.ReferenceIdeal.Gen Cert.ReferenceIdeal.Value Cert.Online Cert.Spec
open Idealize.ShloMosaic

/-- The code, from any output array. -/
theorem pay3_any (v : FVec Ideal S48x24576x128 .bf16) (s mm : FVec Ideal S2x24x24576x24576 .f32) (vs : Vec Ideal S8 .f32) (os : Vec Ideal S24 .f32)
    (b : Fin 2) (i : Fin 24576) (c : Fin 3072) :
    k0_pay3 (F := Ideal) v s mm vs os (ix3 b i c)
      = min (Ideal.ofBits .f32 0x43E00000#32) (max (Ideal.ofBits .f32 0xC3E00000#32)
          ((k0_pay1 (F := Ideal) v s mm vs (ix4 b (hd c) i (dc c)) : EReal) * Ideal.div 1 (os (ix1 (hd c))))) := by
  unfold k0_pay3
  simp only [pointwise]
  refine congrArg (fun x : EReal => min (Ideal.ofBits .f32 0x43E00000#32) (max (Ideal.ofBits .f32 0xC3E00000#32) x)) ?_
  unfold hd dc
  refine congrArg₂ (fun a b : EReal => a * b) rfl (congrArg (Ideal.div 1) (congrArg os (congrArg ix1 ?_)))
  exact dif_neg (show ¬ (24 : ℕ) = 1 by decide)

section Whole
variable (q : Vec Ideal S2x24576x3072 .fp8e4m3) (k v : Vec Ideal S2x24576x1024 .fp8e4m3) (qs os : Vec Ideal S24 .f32) (ks vs : Vec Ideal S8 .f32)

/-- The reference's codes. -/
theorem pay3_at (b : Fin 2) (i : Fin 24576) (c : Fin 3072) :
    k0_pay3 (F := Ideal) (k0_pay4 v) (k0_pay5 q k qs ks) (k0_pay6 q k qs ks) vs os (ix3 b i c)
      = code (out q k v qs ks vs b (hd c) i (dc c)) (os (ix1 (hd c))) := by
  rw [pay3_any]
  unfold code
  rw [pay1_out]

/-- The reference's amax. -/
theorem pay2_at (h : Fin 24) :
    k0_pay2 (F := Ideal) (k0_pay4 v) (k0_pay5 q k qs ks) (k0_pay6 q k qs ks) vs (ix1 h) = amax q k v qs ks vs h := by
  unfold k0_pay2
  simp only [pointwise]
  rw [Spec.ofBits_negInf]
  show (Finset.univ.filter fun i => reduces_S2x24x24576x128_S24.drop i = ix1 h).sup (fun i : S2x24x24576x128.Idx => max (k0_pay1 (F := Ideal) (k0_pay4 v) (k0_pay5 q k qs ks) (k0_pay6 q k qs ks) vs i : EReal) (-(k0_pay1 (F := Ideal) (k0_pay4 v) (k0_pay5 q k qs ks) (k0_pay6 q k qs ks) vs i : EReal))) = _
  apply le_antisymm
  · refine Finset.sup_le fun i hi => ?_
    have hd := (Finset.mem_filter.1 hi).2
    obtain ⟨b, h', r, d, rfl⟩ : ∃ (b : Fin 2) (h' : Fin 24) (r : Fin 24576) (d : Fin 128), i = ix4 b h' r d := ⟨_, _, _, _, (ix4_eta i).symm⟩
    obtain rfl : h' = h := Fin.ext (congrArg Fin.val (congrFun hd 0))
    rw [pay1_out]
    exact le_amax q k v qs ks vs b h' r d
  · refine amax_le q k v qs ks vs h _ fun b r d => ?_
    rw [← pay1_out]
    refine Finset.le_sup (f := fun i : S2x24x24576x128.Idx => max (k0_pay1 (F := Ideal) (k0_pay4 v) (k0_pay5 q k qs ks) (k0_pay6 q k qs ks) vs i : EReal) (-(k0_pay1 (F := Ideal) (k0_pay4 v) (k0_pay5 q k qs ks) (k0_pay6 q k qs ks) vs i : EReal)))
      (Finset.mem_filter.2 ⟨Finset.mem_univ (ix4 b h r d), ?_⟩)
    funext a
    match a with
    | ⟨0, _⟩ => rfl

/-- The codes of a run of the reference. -/
theorem G7_at (b : Fin 2) (i : Fin 24576) (c : Fin 3072) :
    G7 (F := Ideal) qs ks vs os q k v (ix3 b i c)
      = code (out q k v qs ks vs b (hd c) i (dc c)) (os (ix1 (hd c))) := by
  unfold G7 k0_pay7 k0_pay8 k0_pay9
  rw [View.ld_unit_zero (S := S2x24576x1024) hz7 _ v, View.ld_unit_zero (S := S2x24576x1024) hz7 _ k, View.ld_unit_zero (S := S2x24576x3072) hz7 _ q,
    View.ld_unit_zero (S := S24) hz2 _ qs, View.ld_unit_zero (S := S8) hz2 _ ks]
  exact pay3_at q k v qs os ks vs b i c

/-- The amax of a run of the reference. -/
theorem G8_at (h : Fin 24) : G8 (F := Ideal) qs ks vs os q k v (ix1 h) = amax q k v qs ks vs h := by
  unfold G8 k0_pay7 k0_pay8 k0_pay9
  rw [View.ld_unit_zero (S := S2x24576x1024) hz7 _ v, View.ld_unit_zero (S := S2x24576x1024) hz7 _ k, View.ld_unit_zero (S := S2x24576x3072) hz7 _ q,
    View.ld_unit_zero (S := S24) hz2 _ qs, View.ld_unit_zero (S := S8) hz2 _ ks]
  exact pay2_at q k v qs ks vs h

end Whole

end Cert.ReferenceIdeal.Body
-- ==== Proof.Equal.lean ====
/-
  The two programs' results are equal: element by element each is the attention of the shared description.
-/
module

public import proofs.«01_k».proof.Defs
public import proofs.«01_k».proof.Proof.KOut
public import proofs.«01_k».proof.Proof.RRes

@[expose] public section

set_option maxRecDepth 16384

noncomputable section

namespace Cert.Proof

open Idealize.ShloMosaic Idealize.SL.Sem
open Cert.KernelIdeal.Body Cert.ReferenceIdeal.Body Cert.ReferenceIdeal.Value

variable (m : (ℓ : Loc Cert.KernelIdeal.nD Cert.KernelIdeal.τ Cert.KernelIdeal.sig) → Buf (Elt Ideal) ℓ)

/-- The kernel's codes are the reference's at the same arguments. -/
theorem codes_eq (c : Dev Cert.KernelIdeal.nD) :
    codesArr m c = G7 (F := Ideal) (aQs m c) (aKs m c) (aVs m c) (aOs m c) (aQ m c) (aK m c) (aV m c) := by
  funext j
  rw [eq_ix3 (n0 := 2) (n1 := 24576) (n2 := 3072) j]
  exact (codesArr_val m c _ _ _).trans (G7_at _ _ _ _ _ _ _ _ _ _).symm

/-- The kernel's amax is the reference's at the same arguments. -/
theorem amax_eq (c : Dev Cert.KernelIdeal.nD) :
    amaxRes m c = G8 (F := Ideal) (aQs m c) (aKs m c) (aVs m c) (aOs m c) (aQ m c) (aK m c) (aV m c) := by
  funext j
  rw [eq_ix1 (n0 := 24) j]
  exact (amaxRes_val m c _).trans (G8_at _ _ _ _ _ _ _ _).symm

/-- Both programs end with the same codes, the same amax and the output scales as they were given. -/
theorem algebraic : Cert.algebraic_KernelIdeal_ReferenceIdeal (hKernelIdeal := Cert.KernelIdeal.Gen.facts) (hReferenceIdeal := Cert.ReferenceIdeal.Gen.facts) := by
  intro m g m' g' _ hA
  refine ⟨fun c => codesArr m c, fun c => amaxRes m c, fun c => aOs m c, ?_, ?_⟩
  · refine (θ_run _ _ _).mono (fun r h c => ?_) (run_res m g)
    obtain ⟨h0, h1, hr⟩ := h c
    exact ⟨h0, h1, hr.2.2.2.2.2.2, hr⟩
  · refine (θ_run _ _ _).mono (fun r h c => ?_) (Cert.ReferenceIdeal.Value.run m' g')
    obtain ⟨h0, h1, hr⟩ := h c
    obtain ⟨a0, a1, a2, a3, a4, a5, a6⟩ := hA c
    refine ⟨h0.trans ?_, h1.trans ?_, hr.2.2.2.2.2.2.trans a6, hr⟩
    · refine Eq.trans ?_ (codes_eq m c).symm
      exact congr (congr (congr (congr (congr (congr (congrArg (G7 (F := Ideal)) a3) a4) a5) a6) a0) a1) a2
    · refine Eq.trans ?_ (amax_eq m c).symm
      exact congr (congr (congr (congr (congr (congr (congrArg (G8 (F := Ideal)) a3) a4) a5) a6) a0) a1) a2

end Cert.Proof
-- ==== Proof.KBits.lean ====
/-
  The frame of the kernel on bits, from the frame of the idealised kernel: the two programs are the same but for the
  named constant, and the idealised kernel's frame holds whatever the name stands for.
-/
module

public import proofs.«01_k».proof.Proof.KFrame
public import proofs.«01_k».proof.Proof.Gen.Kernel

@[expose] public section

set_option maxRecDepth 16384

noncomputable section

namespace Cert.Kernel.Body

open Idealize.ShloMosaic Idealize.ShloMosaic.TcCoe Idealize.SL.Sem

attribute [local instance] Cert.Kernel.Gen.facts Cert.KernelIdeal.Gen.facts

variable {F : FTy → Type} [FloatOps F]

/-- The reading of a named constant as the literal it replaces. -/
abbrev literal : Named F := ⟨fun _ _ {φ} b => Scalar.ofBits φ b⟩

/-- The two body tables have the same rows. -/
theorem table_eq : @Cert.KernelIdeal.defs₀ F _ literal _ = @Cert.Kernel.defs₀ F _ _ := by
  funext p l a
  match p, l, a with
  | .tc, ⟨0, _⟩, (t, s) => rfl
  | .scScalar _, _, _ => rfl
  | .scVector _ _, _, _ => rfl

variable (m : (ℓ : Loc Cert.Kernel.nD Cert.Kernel.τ Cert.Kernel.sig) → Buf (Elt F) ℓ) (ρ : Dev Cert.Kernel.nD → PrngReg)

/-- The frame of the kernel's main program over a body table. -/
def FrameOver (D : Defs Cert.Kernel.nD Cert.Kernel.τ Cert.Kernel.sig (Elt F) Cert.Kernel.Λ₀) : Prop :=
  θ_run (Pipeline.defs (Cert.Kernel.pcfgs (F := F)) D) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

/-- The idealised kernel's frame, at the literal, over its own table. -/
theorem frame_over : FrameOver m ρ (@Cert.KernelIdeal.defs₀ F _ literal _) := by
  with_unfolding_all exact @Cert.KernelIdeal.Body.frame_ideal F _ literal m ρ

/-- Every run of the kernel ends with the arguments as they were and every semaphore counter at zero. -/
theorem frame : FrameOver m ρ (Cert.Kernel.defs₀ (F := F)) :=
  table_eq (F := F) ▸ frame_over m ρ

end Cert.Kernel.Body
-- ==== Proof.lean ====
/-
  The proof of `Cert.Claim`: the three programs run to their end on every input and leave their arguments as they
  were, the idealised kernel keeps the kernel's operations, and the idealised kernel's results are the reference's.
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import proofs.«01_k».proof.Proof.KBits
public import Idealize.ShloMosaic.Adequacy
public import Idealize.ShloMosaic.Init

@[expose] public section

noncomputable section

namespace Cert.Proof

open Idealize.ShloMosaic Idealize.SL.Sem Cert.Kernel

/-- The five claims, each from its own theorem. -/
theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame_ideal m ρ,
  fun m ρ _ => Cert.ReferenceIdeal.Gen.frame m ρ,
  IdealRules.named_const.statement Cert.KernelIdeal.κ "log2_e" .f32 0x3FB8AA3B#32 (((Real.log 2)⁻¹ : ℝ) : EReal) rfl,
  algebraic⟩

end Cert.Proof

end
